-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x4 : Shape := ⟨2, ![5000, 4]⟩
abbrev S5000 : Shape := ⟨1, ![5000]⟩
abbrev S_ : Shape := ⟨0, ![]⟩
abbrev S3192 : Shape := ⟨1, ![3192]⟩
abbrev S8192 : Shape := ⟨1, ![8192]⟩
abbrev S64x128 : Shape := ⟨2, ![64, 128]⟩
abbrev S5000x1 : Shape := ⟨2, ![5000, 1]⟩
abbrev S5120x8 : Shape := ⟨2, ![5120, 8]⟩
abbrev S16x8 : Shape := ⟨2, ![16, 8]⟩
abbrev S8x5120 : Shape := ⟨2, ![8, 5120]⟩
abbrev S5120x1 : Shape := ⟨2, ![5120, 1]⟩
abbrev S64x1 : Shape := ⟨2, ![64, 1]⟩
abbrev S64x127 : Shape := ⟨2, ![64, 127]⟩
abbrev S64x2 : Shape := ⟨2, ![64, 2]⟩
abbrev S64x126 : Shape := ⟨2, ![64, 126]⟩
abbrev S64x4 : Shape := ⟨2, ![64, 4]⟩
abbrev S64x124 : Shape := ⟨2, ![64, 124]⟩
abbrev S64x8 : Shape := ⟨2, ![64, 8]⟩
abbrev S64x120 : Shape := ⟨2, ![64, 120]⟩
abbrev S64x16 : Shape := ⟨2, ![64, 16]⟩
abbrev S64x112 : Shape := ⟨2, ![64, 112]⟩
abbrev S64x32 : Shape := ⟨2, ![64, 32]⟩
abbrev S64x96 : Shape := ⟨2, ![64, 96]⟩
abbrev S64x64 : Shape := ⟨2, ![64, 64]⟩
abbrev S1x128 : Shape := ⟨2, ![1, 128]⟩
abbrev S63x128 : Shape := ⟨2, ![63, 128]⟩
abbrev S2x128 : Shape := ⟨2, ![2, 128]⟩
abbrev S62x128 : Shape := ⟨2, ![62, 128]⟩
abbrev S4x128 : Shape := ⟨2, ![4, 128]⟩
abbrev S60x128 : Shape := ⟨2, ![60, 128]⟩
abbrev S8x128 : Shape := ⟨2, ![8, 128]⟩
abbrev S56x128 : Shape := ⟨2, ![56, 128]⟩
abbrev S16x128 : Shape := ⟨2, ![16, 128]⟩
abbrev S48x128 : Shape := ⟨2, ![48, 128]⟩
abbrev S32x128 : Shape := ⟨2, ![32, 128]⟩
abbrev S1x512 : Shape := ⟨2, ![1, 512]⟩
abbrev S128x4 : Shape := ⟨2, ![128, 4]⟩
abbrev S128x1 : Shape := ⟨2, ![128, 1]⟩
abbrev S512x1 : Shape := ⟨2, ![512, 1]⟩
abbrev S8x512 : Shape := ⟨2, ![8, 512]⟩
abbrev S512x8 : Shape := ⟨2, ![512, 8]⟩
abbrev S512x512 : Shape := ⟨2, ![512, 512]⟩
abbrev S1x512x1 : Shape := ⟨3, ![1, 512, 1]⟩
abbrev S1 : Shape := ⟨1, ![1]⟩
abbrev S1x1x1 : Shape := ⟨3, ![1, 1, 1]⟩
abbrev S1x16 : Shape := ⟨2, ![1, 16]⟩
abbrev S512x16 : Shape := ⟨2, ![512, 16]⟩
abbrev S16x512 : Shape := ⟨2, ![16, 512]⟩
abbrev S5000x5 : Shape := ⟨2, ![5000, 5]⟩
abbrev S15x5 : Shape := ⟨2, ![15, 5]⟩

abbrev nBuf : Space → Nat
  | .hbm => 34
  | .vmem => 10
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S_, .f32⟩
  | .hbm, ⟨3, _⟩ => ⟨S3192, .f32⟩
  | .hbm, ⟨4, _⟩ => ⟨S8192, .f32⟩
  | .hbm, ⟨5, _⟩ => ⟨S64x128, .f32⟩
  | .hbm, ⟨6, _⟩ => ⟨S5000x1, .f32⟩
  | .hbm, ⟨7, _⟩ => ⟨S5000, .f32⟩
  | .hbm, ⟨8, _⟩ => ⟨S_, .f32⟩
  | .hbm, ⟨9, _⟩ => ⟨S3192, .f32⟩
  | .hbm, ⟨10, _⟩ => ⟨S8192, .f32⟩
  | .hbm, ⟨11, _⟩ => ⟨S64x128, .f32⟩
  | .hbm, ⟨12, _⟩ => ⟨S5000x1, .f32⟩
  | .hbm, ⟨13, _⟩ => ⟨S5000, .f32⟩
  | .hbm, ⟨14, _⟩ => ⟨S_, .f32⟩
  | .hbm, ⟨15, _⟩ => ⟨S3192, .f32⟩
  | .hbm, ⟨16, _⟩ => ⟨S8192, .f32⟩
  | .hbm, ⟨17, _⟩ => ⟨S64x128, .f32⟩
  | .hbm, ⟨18, _⟩ => ⟨S5000x1, .f32⟩
  | .hbm, ⟨19, _⟩ => ⟨S5000, .f32⟩
  | .hbm, ⟨20, _⟩ => ⟨S_, .f32⟩
  | .hbm, ⟨21, _⟩ => ⟨S3192, .f32⟩
  | .hbm, ⟨22, _⟩ => ⟨S8192, .f32⟩
  | .hbm, ⟨23, _⟩ => ⟨S64x128, .f32⟩
  | .hbm, ⟨24, _⟩ => ⟨S5000x1, .f32⟩
  | .hbm, ⟨25, _⟩ => ⟨S5000, .f32⟩
  | .hbm, ⟨26, _⟩ => ⟨S_, .f32⟩
  | .hbm, ⟨27, _⟩ => ⟨S3192, .f32⟩
  | .hbm, ⟨28, _⟩ => ⟨S8192, .f32⟩
  | .hbm, ⟨29, _⟩ => ⟨S64x128, .f32⟩
  | .hbm, ⟨30, _⟩ => ⟨S5120x8, .f32⟩
  | .hbm, ⟨31, _⟩ => ⟨S16x8, .f32⟩
  | .hbm, ⟨32, _⟩ => ⟨S5000x5, .f32⟩
  | .hbm, ⟨33, _⟩ => ⟨S15x5, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S5120x8, .f32⟩
  | .local _ .vmem, ⟨6, _⟩ => ⟨S16x8, .f32⟩
  | .local _ .vmem, ⟨7, _⟩ => ⟨S5120x8, .f32⟩
  | .local _ .vmem, ⟨8, _⟩ => ⟨S8x5120, .f32⟩
  | .local _ .vmem, ⟨9, _⟩ => ⟨S5120x1, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v24 : Ref sig .tc := ⟨.hbm, 32, rfl⟩
abbrev main_v25 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S5000x1 : Shape := ⟨2, ![5000, 1]⟩
abbrev S_ : Shape := ⟨0, ![]⟩
abbrev S5000x2 : Shape := ⟨2, ![5000, 2]⟩
abbrev S5000x1x2 : Shape := ⟨3, ![5000, 1, 2]⟩
abbrev S1x5000x2 : Shape := ⟨3, ![1, 5000, 2]⟩
abbrev S5000x5000x2 : Shape := ⟨3, ![5000, 5000, 2]⟩
abbrev S5000x5000x1 : Shape := ⟨3, ![5000, 5000, 1]⟩
abbrev S5000x5000 : Shape := ⟨2, ![5000, 5000]⟩
abbrev S1x5000 : Shape := ⟨2, ![1, 5000]⟩
abbrev S1 : Shape := ⟨1, ![1]⟩
abbrev S5000x5 : Shape := ⟨2, ![5000, 5]⟩
abbrev S15 : Shape := ⟨1, ![15]⟩
abbrev S15x1 : Shape := ⟨2, ![15, 1]⟩
abbrev S15x5 : Shape := ⟨2, ![15, 5]⟩

abbrev nBuf : Space → Nat
  | .hbm => 175
  | .vmem => 0
  | .smem => 0
  | _ => 0

abbrev hbmTy0_0 (i : Nat) : BufTy := match i % 128 with
  | 0 => ⟨S5000x4, .f32⟩
  | 1 => ⟨S5000, .f32⟩
  | 2 => ⟨S5000x1, .f32⟩
  | 3 => ⟨S5000, .f32⟩
  | 4 => ⟨S_, .f32⟩
  | 5 => ⟨S5000, .f32⟩
  | 6 => ⟨S5000, .f32⟩
  | 7 => ⟨S5000x1, .f32⟩
  | 8 => ⟨S5000, .f32⟩
  | 9 => ⟨S_, .f32⟩
  | 10 => ⟨S5000, .f32⟩
  | 11 => ⟨S5000, .f32⟩
  | 12 => ⟨S5000x1, .f32⟩
  | 13 => ⟨S5000, .f32⟩
  | 14 => ⟨S_, .f32⟩
  | 15 => ⟨S5000, .f32⟩
  | 16 => ⟨S5000, .f32⟩
  | 17 => ⟨S_, .f32⟩
  | 18 => ⟨S5000, .f32⟩
  | 19 => ⟨S5000, .f32⟩
  | 20 => ⟨S5000x1, .f32⟩
  | 21 => ⟨S5000, .f32⟩
  | 22 => ⟨S_, .f32⟩
  | 23 => ⟨S5000, .f32⟩
  | 24 => ⟨S5000, .f32⟩
  | 25 => ⟨S_, .f32⟩
  | 26 => ⟨S5000, .f32⟩
  | 27 => ⟨S5000, .f32⟩
  | 28 => ⟨S5000, .f32⟩
  | 29 => ⟨S5000, .f32⟩
  | 30 => ⟨S5000x1, .f32⟩
  | 31 => ⟨S5000x1, .f32⟩
  | 32 => ⟨S5000x1, .f32⟩
  | 33 => ⟨S5000x1, .f32⟩
  | 34 => ⟨S5000x4, .f32⟩
  | 35 => ⟨S5000, .f32⟩
  | 36 => ⟨S5000, .i32⟩
  | 37 => ⟨S5000, .f32⟩
  | 38 => ⟨S5000, .i32⟩
  | 39 => ⟨S_, .i32⟩
  | 40 => ⟨S5000, .i32⟩
  | 41 => ⟨S5000, .i1⟩
  | 42 => ⟨S_, .i32⟩
  | 43 => ⟨S5000, .i32⟩
  | 44 => ⟨S5000, .i32⟩
  | 45 => ⟨S5000, .i32⟩
  | 46 => ⟨S5000x1, .i32⟩
  | 47 => ⟨S5000x4, .f32⟩
  | 48 => ⟨S_, .i32⟩
  | 49 => ⟨S5000, .i32⟩
  | 50 => ⟨S5000, .i1⟩
  | 51 => ⟨S_, .i32⟩
  | 52 => ⟨S5000, .i32⟩
  | 53 => ⟨S5000, .i32⟩
  | 54 => ⟨S5000, .i32⟩
  | 55 => ⟨S5000x1, .i32⟩
  | 56 => ⟨S5000, .f32⟩
  | 57 => ⟨S5000x1, .f32⟩
  | 58 => ⟨S5000, .f32⟩
  | 59 => ⟨S5000x1, .f32⟩
  | 60 => ⟨S5000, .f32⟩
  | 61 => ⟨S5000, .f32⟩
  | 62 => ⟨S5000x1, .f32⟩
  | 63 => ⟨S5000, .f32⟩
  | 64 => ⟨S5000x1, .f32⟩
  | 65 => ⟨S5000, .f32⟩
  | 66 => ⟨S5000, .f32⟩
  | 67 => ⟨S5000, .f32⟩
  | 68 => ⟨S5000x2, .f32⟩
  | 69 => ⟨S5000x1x2, .f32⟩
  | 70 => ⟨S5000x2, .f32⟩
  | 71 => ⟨S1x5000x2, .f32⟩
  | 72 => ⟨S5000x5000x2, .f32⟩
  | 73 => ⟨S5000x5000x2, .f32⟩
  | 74 => ⟨S5000x5000x2, .f32⟩
  | 75 => ⟨S5000x2, .f32⟩
  | 76 => ⟨S5000x1x2, .f32⟩
  | 77 => ⟨S5000x2, .f32⟩
  | 78 => ⟨S1x5000x2, .f32⟩
  | 79 => ⟨S5000x5000x2, .f32⟩
  | 80 => ⟨S5000x5000x2, .f32⟩
  | 81 => ⟨S5000x5000x2, .f32⟩
  | 82 => ⟨S5000x5000x2, .f32⟩
  | 83 => ⟨S_, .f32⟩
  | 84 => ⟨S_, .f32⟩
  | 85 => ⟨S5000x5000x2, .f32⟩
  | 86 => ⟨S5000x5000x2, .f32⟩
  | 87 => ⟨S5000x5000x1, .f32⟩
  | 88 => ⟨S5000x5000, .f32⟩
  | 89 => ⟨S5000x5000x1, .f32⟩
  | 90 => ⟨S5000x5000, .f32⟩
  | 91 => ⟨S5000x5000, .f32⟩
  | 92 => ⟨S5000x1, .f32⟩
  | 93 => ⟨S1x5000, .f32⟩
  | 94 => ⟨S5000x5000, .f32⟩
  | 95 => ⟨S5000x5000, .f32⟩
  | 96 => ⟨S5000x5000, .f32⟩
  | 97 => ⟨S5000x5000, .f32⟩
  | 98 => ⟨S_, .f32⟩
  | 99 => ⟨S5000x5000, .f32⟩
  | 100 => ⟨S5000x5000, .f32⟩
  | 101 => ⟨S5000x5000, .f32⟩
  | 102 => ⟨S5000, .i32⟩
  | 103 => ⟨S_, .f32⟩
  | 104 => ⟨S5000, .f32⟩
  | 105 => ⟨S5000, .i1⟩
  | 106 => ⟨S_, .i32⟩
  | 107 => ⟨S_, .i32⟩
  | 108 => ⟨S5000x5000, .f32⟩
  | 109 => ⟨S5000, .i32⟩
  | 110 => ⟨S_, .i32⟩
  | 111 => ⟨S_, .i32⟩
  | 112 => ⟨S5000, .i1⟩
  | 113 => ⟨S_, .i32⟩
  | 114 => ⟨S_, .i1⟩
  | 115 => ⟨S_, .i32⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S_, .i1⟩
  | 126 => ⟨S_, .i32⟩
  | 127 => ⟨S_, .i32⟩
  | _ => ⟨S5000x4, .f32⟩

abbrev hbmTy0_1 (i : Nat) : BufTy := match i % 128 with
  | 0 => ⟨S_, .i32⟩
  | 1 => ⟨S_, .i32⟩
  | 2 => ⟨S_, .i32⟩
  | 3 => ⟨S1x5000, .f32⟩
  | 4 => ⟨S5000, .f32⟩
  | 5 => ⟨S_, .f32⟩
  | 6 => ⟨S5000, .f32⟩
  | 7 => ⟨S5000, .i1⟩
  | 8 => ⟨S_, .i32⟩
  | 9 => ⟨S5000, .i32⟩
  | 10 => ⟨S5000, .i1⟩
  | 11 => ⟨S5000, .i1⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S1, .i1⟩
  | 19 => ⟨S_, .i1⟩
  | 20 => ⟨S5000, .i1⟩
  | 21 => ⟨S5000, .i1⟩
  | 22 => ⟨S5000, .i1⟩
  | 23 => ⟨S5000, .i1⟩
  | 24 => ⟨S_, .i32⟩
  | 25 => ⟨S_, .i32⟩
  | 26 => ⟨S5000x1, .f32⟩
  | 27 => ⟨S5000x5, .f32⟩
  | 28 => ⟨S5000x1, .i1⟩
  | 29 => ⟨S5000x1, .f32⟩
  | 30 => ⟨S5000x5, .f32⟩
  | 31 => ⟨S5000x5, .f32⟩
  | 32 => ⟨S_, .f32⟩
  | 33 => ⟨S_, .f32⟩
  | 34 => ⟨S5000, .f32⟩
  | 35 => ⟨S5000, .f32⟩
  | 36 => ⟨S15, .f32⟩
  | 37 => ⟨S15, .i32⟩
  | 38 => ⟨S_, .i32⟩
  | 39 => ⟨S15, .i32⟩
  | 40 => ⟨S15, .i1⟩
  | 41 => ⟨S_, .i32⟩
  | 42 => ⟨S15, .i32⟩
  | 43 => ⟨S15, .i32⟩
  | 44 => ⟨S15, .i32⟩
  | 45 => ⟨S15x1, .i32⟩
  | 46 => ⟨S15x5, .f32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call0_v0 : Ref sig .tc := ⟨.hbm, 36, rfl⟩
abbrev main_call0_v1_0 : Ref sig .tc := ⟨.hbm, 37, rfl⟩
abbrev main_v28 : Ref sig .tc := ⟨.hbm, 38, rfl⟩
abbrev main_c : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_8 : Ref sig .tc := ⟨.hbm, 83, rfl⟩
abbrev main_call1_v0 : Ref sig .tc := ⟨.hbm, 84, rfl⟩
abbrev main_call1_v1 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_cst_9 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_10 : Ref sig .tc := ⟨.hbm, 103, rfl⟩
abbrev main_v85 : Ref sig .tc := ⟨.hbm, 104, rfl⟩
abbrev main_v86 : Ref sig .tc := ⟨.hbm, 105, rfl⟩
abbrev main_c_11 : Ref sig .tc := ⟨.hbm, 106, rfl⟩
abbrev main_c_12 : Ref sig .tc := ⟨.hbm, 107, rfl⟩
abbrev main_v87_0 : Ref sig .tc := ⟨.hbm, 108, rfl⟩
abbrev main_v87_1 : Ref sig .tc := ⟨.hbm, 109, rfl⟩
abbrev main_v87_2 : Ref sig .tc := ⟨.hbm, 110, rfl⟩
abbrev main_v87_3 : Ref sig .tc := ⟨.hbm, 111, rfl⟩
abbrev main_v87_4 : Ref sig .tc := ⟨.hbm, 112, rfl⟩
abbrev main_while0c_c_20 : Ref sig .tc := ⟨.hbm, 113, rfl⟩
abbrev main_while0c_v102 : Ref sig .tc := ⟨.hbm, 114, rfl⟩
abbrev main_while0b_c_20 : Ref sig .tc := ⟨.hbm, 115, rfl⟩
abbrev main_while0b_v102 : Ref sig .tc := ⟨.hbm, 116, rfl⟩
abbrev main_while0b_v103 : Ref sig .tc := ⟨.hbm, 117, rfl⟩
abbrev main_while0b_c_21 : Ref sig .tc := ⟨.hbm, 118, rfl⟩
abbrev main_while0b_v104 : Ref sig .tc := ⟨.hbm, 119, rfl⟩
abbrev main_while0b_c_22 : Ref sig .tc := ⟨.hbm, 120, rfl⟩
abbrev main_while0b_v105 : Ref sig .tc := ⟨.hbm, 121, rfl⟩
abbrev main_while0b_v106 : Ref sig .tc := ⟨.hbm, 122, rfl⟩
abbrev main_while0b_c_23 : Ref sig .tc := ⟨.hbm, 123, rfl⟩
abbrev main_while0b_c_24 : Ref sig .tc := ⟨.hbm, 124, rfl⟩
abbrev main_while0b_v107 : Ref sig .tc := ⟨.hbm, 125, rfl⟩
abbrev main_while0b_c_25 : Ref sig .tc := ⟨.hbm, 126, rfl⟩
abbrev main_while0b_c_26 : Ref sig .tc := ⟨.hbm, 127, rfl⟩
abbrev main_while0b_v108 : Ref sig .tc := ⟨.hbm, 128, rfl⟩
abbrev main_while0b_c_27 : Ref sig .tc := ⟨.hbm, 129, rfl⟩
abbrev main_while0b_v109 : Ref sig .tc := ⟨.hbm, 130, rfl⟩
abbrev main_while0b_v110 : Ref sig .tc := ⟨.hbm, 131, rfl⟩
abbrev main_while0b_v111 : Ref sig .tc := ⟨.hbm, 132, rfl⟩
abbrev main_while0b_cst_28 : Ref sig .tc := ⟨.hbm, 133, rfl⟩
abbrev main_while0b_v112 : Ref sig .tc := ⟨.hbm, 134, rfl⟩
abbrev main_while0b_v113 : Ref sig .tc := ⟨.hbm, 135, rfl⟩
abbrev main_while0b_v114 : Ref sig .tc := ⟨.hbm, 136, rfl⟩
abbrev main_while0b_v115 : Ref sig .tc := ⟨.hbm, 137, rfl⟩
abbrev main_while0b_v116 : Ref sig .tc := ⟨.hbm, 138, rfl⟩
abbrev main_while0b_v117 : Ref sig .tc := ⟨.hbm, 139, rfl⟩
abbrev main_while0b_c_29 : Ref sig .tc := ⟨.hbm, 140, rfl⟩
abbrev main_while0b_v118 : Ref sig .tc := ⟨.hbm, 141, rfl⟩
abbrev main_while0b_v119 : Ref sig .tc := ⟨.hbm, 142, rfl⟩
abbrev main_while0b_c_30 : Ref sig .tc := ⟨.hbm, 143, rfl⟩
abbrev main_while0b_v120 : Ref sig .tc := ⟨.hbm, 144, rfl⟩
abbrev main_while0b_v121 : Ref sig .tc := ⟨.hbm, 145, rfl⟩
abbrev main_while0b_v122 : Ref sig .tc := ⟨.hbm, 146, rfl⟩
abbrev main_while0b_v123 : Ref sig .tc := ⟨.hbm, 147, rfl⟩
abbrev main_while0b_v124 : Ref sig .tc := ⟨.hbm, 148, rfl⟩
abbrev main_while0b_v125 : Ref sig .tc := ⟨.hbm, 149, rfl⟩
abbrev main_while0b_v126 : Ref sig .tc := ⟨.hbm, 150, rfl⟩
abbrev main_while0b_v127 : Ref sig .tc := ⟨.hbm, 151, rfl⟩
abbrev main_while0b_c_31 : Ref sig .tc := ⟨.hbm, 152, rfl⟩
abbrev main_while0b_v128 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_cst_13 : Ref sig .tc := ⟨.hbm, 160, rfl⟩
abbrev main_call2_v0 : Ref sig .tc := ⟨.hbm, 161, rfl⟩
abbrev main_call2_v1 : Ref sig .tc := ⟨.hbm, 162, rfl⟩
abbrev main_v94 : Ref sig .tc := ⟨.hbm, 163, rfl⟩
abbrev main_values : Ref sig .tc := ⟨.hbm, 164, rfl⟩
abbrev main_indices : Ref sig .tc := ⟨.hbm, 165, rfl⟩
abbrev main_c_14 : Ref sig .tc := ⟨.hbm, 166, rfl⟩
abbrev main_v95 : Ref sig .tc := ⟨.hbm, 167, rfl⟩
abbrev main_v96 : Ref sig .tc := ⟨.hbm, 168, rfl⟩
abbrev main_c_15 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩

abbrev nD : Nat := 1
abbrev τ : Topo := Topo.v7x

variable {F : FTy → Type} [FloatOps F]

abbrev main_while0_count : Scf.Loop 32 := ⟨0#32, 5000#32, 1#32⟩
-- ==== Proof.Struct.lean ====
/-
  The kernel's body written with loops: the same statements in the same order as the printed body, the 91 stages of the
  sort, the 10 blocks of the tables, of the suppression and of the selection each said once with the stage or the block
  as a parameter. It is stated for any signature, any labels and any float values, over the memrefs the body is given, so
  one account of what it does serves every printing of the kernel.
-/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

noncomputable section

namespace Cert.Nms

open Idealize.ShloMosaic Idealize.SL.Sem

variable {F : FTy → Type} [FloatOps F]

/-- The shape of an `a` by `b` matrix. -/
abbrev Shp (a b : ℕ) : Shape := ⟨2, ![a, b]⟩

/-- A float matrix. -/
abbrev Mat (F : FTy → Type) (a b : ℕ) := FVec F (Shp a b) .f32

/-! ## Rolls of a 64 by 128 array -/

theorem slices_of {a b c d i j : ℕ} (h0 : i + c ≤ a) (h1 : j + d ≤ b) : (Shp a b).Slices ![i, j] (Shp c d) :=
  ⟨rfl, fun x => by fin_cases x; exacts [h0, h1]⟩

theorem concat_lanes {a b c : ℕ} (h : b + c = 128) (ha : a = 64) :
    Shape.Concatenates [Shp a b, Shp a c] (Shp 64 128) 1 := by
  subst ha
  refine ⟨le_refl _, ?_, ?_⟩
  · intro s hs
    simp only [List.mem_cons, List.not_mem_nil, or_false] at hs
    rcases hs with rfl | rfl <;> exact ⟨rfl, fun x hx => by fin_cases x; exacts [rfl, absurd rfl hx]⟩
  · simpa using h

theorem concat_rows {a b c : ℕ} (h : b + c = 64) (ha : a = 128) :
    Shape.Concatenates [Shp b a, Shp c a] (Shp 64 128) 0 := by
  subst ha
  refine ⟨le_refl _, ?_, ?_⟩
  · intro s hs
    simp only [List.mem_cons, List.not_mem_nil, or_false] at hs
    rcases hs with rfl | rfl <;> exact ⟨rfl, fun x hx => by fin_cases x; exacts [absurd rfl hx, rfl]⟩
  · simpa using h

section Rolls
variable {α : Type}

/-- The array rolled by `s` lanes towards the higher lanes, -/
def rollLane (s : ℕ) (hs : s ≤ 128) (a : (Shp 64 128).Idx → α) : (Shp 64 128).Idx → α :=
  concatenate (Shp 64 128) 1
    [⟨Shp 64 s, extractStridedSlice (Shp 64 s) ![0, 128 - s] a (slices_of (le_refl _) (by omega))⟩,
     ⟨Shp 64 (128 - s), extractStridedSlice (Shp 64 (128 - s)) ![0, 0] a (slices_of (le_refl _) (by omega))⟩]
    (concat_lanes (by omega) rfl)

/-- and towards the lower ones; -/
def rollLane' (s : ℕ) (hs : s ≤ 128) (a : (Shp 64 128).Idx → α) : (Shp 64 128).Idx → α :=
  concatenate (Shp 64 128) 1
    [⟨Shp 64 (128 - s), extractStridedSlice (Shp 64 (128 - s)) ![0, s] a (slices_of (le_refl _) (by omega))⟩,
     ⟨Shp 64 s, extractStridedSlice (Shp 64 s) ![0, 0] a (slices_of (le_refl _) (by omega))⟩]
    (concat_lanes (by omega) rfl)

/-- by `s` rows towards the higher rows, -/
def rollRow (s : ℕ) (hs : s ≤ 64) (a : (Shp 64 128).Idx → α) : (Shp 64 128).Idx → α :=
  concatenate (Shp 64 128) 0
    [⟨Shp s 128, extractStridedSlice (Shp s 128) ![64 - s, 0] a (slices_of (by omega) (le_refl _))⟩,
     ⟨Shp (64 - s) 128, extractStridedSlice (Shp (64 - s) 128) ![0, 0] a (slices_of (by omega) (le_refl _))⟩]
    (concat_rows (by omega) rfl)

/-- and towards the lower ones. -/
def rollRow' (s : ℕ) (hs : s ≤ 64) (a : (Shp 64 128).Idx → α) : (Shp 64 128).Idx → α :=
  concatenate (Shp 64 128) 0
    [⟨Shp (64 - s) 128, extractStridedSlice (Shp (64 - s) 128) ![s, 0] a (slices_of (by omega) (le_refl _))⟩,
     ⟨Shp s 128, extractStridedSlice (Shp s 128) ![0, 0] a (slices_of (by omega) (le_refl _))⟩]
    (concat_rows (by omega) rfl)

/-- The array with each entry replaced by the one at distance `2 ^ s`: above where `up` is set, below where not. -/
def partnerOf (s : Fin 13) (up : IVec (Shp 64 128) 1) (a : (Shp 64 128).Idx → α) : (Shp 64 128).Idx → α :=
  match s with
  | 0 => select up (rollLane 1 (by decide) a) (rollLane' 1 (by decide) a)
  | 1 => select up (rollLane 2 (by decide) a) (rollLane' 2 (by decide) a)
  | 2 => select up (rollLane 4 (by decide) a) (rollLane' 4 (by decide) a)
  | 3 => select up (rollLane 8 (by decide) a) (rollLane' 8 (by decide) a)
  | 4 => select up (rollLane 16 (by decide) a) (rollLane' 16 (by decide) a)
  | 5 => select up (rollLane 32 (by decide) a) (rollLane' 32 (by decide) a)
  | 6 => select up (rollLane 64 (by decide) a) (rollLane' 64 (by decide) a)
  | 7 => select up (rollRow 1 (by decide) a) (rollRow' 1 (by decide) a)
  | 8 => select up (rollRow 2 (by decide) a) (rollRow' 2 (by decide) a)
  | 9 => select up (rollRow 4 (by decide) a) (rollRow' 4 (by decide) a)
  | 10 => select up (rollRow 8 (by decide) a) (rollRow' 8 (by decide) a)
  | 11 => select up (rollRow 16 (by decide) a) (rollRow' 16 (by decide) a)
  | 12 => select up (rollRow 32 (by decide) a) (rollRow' 32 (by decide) a)

end Rolls

/-! ## The sort -/

/-- Each entry's position in row-major order, as a word. -/
def posW : IVec (Shp 64 128) 32 :=
  addi (muli (iota .tc (Shp 64 128) 32 [0] (by decide)) (broadcast (Shp 64 128) 128#32)) (iota .tc (Shp 64 128) 32 [1] (by decide))

/-- The entries at the upper end of a pair at distance `jj`. -/
def upper (jj : BitVec 32) : IVec (Shp 64 128) 1 :=
  cmpi .ne (andi posW (broadcast (Shp 64 128) jj)) (broadcast (Shp 64 128) 0#32)

/-- Where an entry takes its partner's contents: `pk`, `pi` the partners' key and index. -/
def takes (kk : BitVec 32) (up : IVec (Shp 64 128) 1) (pk key : Mat F 64 128) (pi idx : IVec (Shp 64 128) 32) : IVec (Shp 64 128) 1 :=
  xori (xori (ori (cmpf .ogt pk key) (andi (cmpf .oeq pk key) (cmpi .slt pi idx)))
      (xori (xori (cmpi .eq (andi posW (broadcast (Shp 64 128) kk)) (broadcast (Shp 64 128) 0#32)) (xori up (constantI (Shp 64 128) 1 1#1)))
        (constantI (Shp 64 128) 1 1#1)))
    (constantI (Shp 64 128) 1 1#1)

/-- The mask of a stage: block size `2 ^ (l + 1)`, distance `2 ^ s`. -/
def takeOf (l s : Fin 13) (key : Mat F 64 128) (idx : IVec (Shp 64 128) 32) : IVec (Shp 64 128) 1 :=
  takes (BitVec.ofNat 32 (2 ^ (l.val + 1))) (upper (BitVec.ofNat 32 (2 ^ s.val)))
    (partnerOf s (upper (BitVec.ofNat 32 (2 ^ s.val))) key) key (partnerOf s (upper (BitVec.ofNat 32 (2 ^ s.val))) idx) idx

/-- One array through a stage with the mask `t`. -/
def exchange {α : Type} (s : Fin 13) (t : IVec (Shp 64 128) 1) (a : (Shp 64 128).Idx → α) : (Shp 64 128).Idx → α :=
  select t (partnerOf s (upper (BitVec.ofNat 32 (2 ^ s.val))) a) a

/-- The six arrays the sort carries. -/
structure Sorted (F : FTy → Type) where
  key : Mat F 64 128
  idx : IVec (Shp 64 128) 32
  x : Mat F 64 128
  y : Mat F 64 128
  w : Mat F 64 128
  h : Mat F 64 128

/-- A stage on the six arrays. -/
def stage (l s : Fin 13) (a : Sorted F) : Sorted F :=
  ⟨exchange s (takeOf l s a.key a.idx) a.key, exchange s (takeOf l s a.key a.idx) a.idx, exchange s (takeOf l s a.key a.idx) a.x,
    exchange s (takeOf l s a.key a.idx) a.y, exchange s (takeOf l s a.key a.idx) a.w, exchange s (takeOf l s a.key a.idx) a.h⟩

/-- The stages in order: the block sizes `2, 4, …, 8192`, for each the distances from half the block down to 1. -/
def stages : List (Fin 13 × Fin 13) :=
  (List.finRange 13).flatMap fun l => ((List.finRange 13).take (l.val + 1)).reverse.map fun s => (l, s)

/-- The arrays after a list of stages. -/
def runStages : List (Fin 13 × Fin 13) → Sorted F → Sorted F
  | [], a => a
  | p :: L, a => runStages L (stage p.1 p.2 a)

/-! ## The tables -/

theorem concat_four_lanes : Shape.Concatenates [Shp 1 128, Shp 1 128, Shp 1 128, Shp 1 128] (Shp 1 512) 1 := by decide

theorem concat_four_rows : Shape.Concatenates [Shp 128 1, Shp 128 1, Shp 128 1, Shp 128 1] (Shp 512 1) 0 := by decide

theorem concat_eight : Shape.Concatenates [Shp 5120 1, Shp 5120 1, Shp 5120 1, Shp 5120 1, Shp 5120 1, Shp 5120 1, Shp 5120 1, Shp 5120 1] (Shp 5120 8) 1 := by decide

/-- Block `j`'s four rows of 128 laid side by side, -/
def colview (j : Fin 10) (a : Mat F 64 128) : Mat F 1 512 :=
  have b : Mat F 4 128 := extractStridedSlice (Shp 4 128) ![4 * j.val, 0] a (slices_of (by omega) (le_refl _))
  concatenate (Shp 1 512) 1
    [⟨Shp 1 128, extractStridedSlice (Shp 1 128) ![0, 0] b (by decide)⟩, ⟨Shp 1 128, extractStridedSlice (Shp 1 128) ![1, 0] b (by decide)⟩,
     ⟨Shp 1 128, extractStridedSlice (Shp 1 128) ![2, 0] b (by decide)⟩, ⟨Shp 1 128, extractStridedSlice (Shp 1 128) ![3, 0] b (by decide)⟩] concat_four_lanes

/-- or one under the other. -/
def rowview (j : Fin 10) (a : Mat F 64 128) : Mat F 512 1 :=
  have b : Mat F 128 4 := transpose (Shp 128 4) [1, 0]
    (extractStridedSlice (Shp 4 128) ![4 * j.val, 0] a (slices_of (by omega) (le_refl _))) (by decide)
  concatenate (Shp 512 1) 0
    [⟨Shp 128 1, extractStridedSlice (Shp 128 1) ![0, 0] b (by decide)⟩, ⟨Shp 128 1, extractStridedSlice (Shp 128 1) ![0, 1] b (by decide)⟩,
     ⟨Shp 128 1, extractStridedSlice (Shp 128 1) ![0, 2] b (by decide)⟩, ⟨Shp 128 1, extractStridedSlice (Shp 128 1) ![0, 3] b (by decide)⟩] concat_four_rows

/-- A left or top edge, -/
def edge (s : Shape) (x : FVec F s .f32) : FVec F s .f32 := mulf x (broadcast s (Scalar.ofBits .f32 0x44800000#32))

/-- a right or bottom one from the left or top one and the size, -/
def edge2 (s : Shape) (x1 w : FVec F s .f32) : FVec F s .f32 :=
  addf x1 (addf (mulf w (broadcast s (Scalar.ofBits .f32 0x43480000#32))) (broadcast s (Scalar.ofBits .f32 0x3F800000#32)))

/-- and the area. -/
def areaOf (s : Shape) (x1 y1 x2 y2 : FVec F s .f32) : FVec F s .f32 := mulf (subf x2 x1) (subf y2 y1)

/-! ## The suppression -/

/-- Where the overlap of the row boxes `r…` with the column boxes `c…` is above the threshold, as 0 or 1. -/
def supMat (rx1 ry1 rx2 ry2 ra : Mat F 512 1) (cx1 cy1 cx2 cy2 ca : Mat F 1 512) : Mat F 512 512 :=
  have iw : Mat F 512 512 := maximumf (subf (minimumf (broadcastTo (Shp 512 512) rx2 (by decide)) (broadcastTo (Shp 512 512) cx2 (by decide)))
    (maximumf (broadcastTo (Shp 512 512) rx1 (by decide)) (broadcastTo (Shp 512 512) cx1 (by decide)))) (broadcast (Shp 512 512) (Scalar.ofBits .f32 0x00000000#32))
  have ih : Mat F 512 512 := maximumf (subf (minimumf (broadcastTo (Shp 512 512) ry2 (by decide)) (broadcastTo (Shp 512 512) cy2 (by decide)))
    (maximumf (broadcastTo (Shp 512 512) ry1 (by decide)) (broadcastTo (Shp 512 512) cy1 (by decide)))) (broadcast (Shp 512 512) (Scalar.ofBits .f32 0x00000000#32))
  have inter : Mat F 512 512 := mulf iw ih
  have union : Mat F 512 512 := subf (addf (broadcastTo (Shp 512 512) ra (by decide)) (broadcastTo (Shp 512 512) ca (by decide))) inter
  sitofp .f32 (extui 32 (cmpf .ogt (divf inter (maximumf union (broadcast (Shp 512 512) (Scalar.ofBits .f32 0x3089705F#32))))
    (broadcast (Shp 512 512) (Scalar.ofBits .f32 0x3E99999A#32))) (by decide))

/-- The same from a block of each table. -/
def supOf (row : Mat F 512 8) (col : Mat F 8 512) : Mat F 512 512 :=
  supMat (extractStridedSlice (Shp 512 1) ![0, 0] row (by decide)) (extractStridedSlice (Shp 512 1) ![0, 1] row (by decide))
    (extractStridedSlice (Shp 512 1) ![0, 2] row (by decide)) (extractStridedSlice (Shp 512 1) ![0, 3] row (by decide))
    (extractStridedSlice (Shp 512 1) ![0, 4] row (by decide))
    (extractStridedSlice (Shp 1 512) ![0, 0] col (by decide)) (extractStridedSlice (Shp 1 512) ![1, 0] col (by decide))
    (extractStridedSlice (Shp 1 512) ![2, 0] col (by decide)) (extractStridedSlice (Shp 1 512) ![3, 0] col (by decide))
    (extractStridedSlice (Shp 1 512) ![4, 0] col (by decide))

/-- The product of a 512 by 512 matrix with a column. -/
def dotCol : DotDims (Shp 512 512) (Shp 512 1) (Shp 512 1) where
  lhsContracting := [1]
  rhsContracting := [0]
  lhsNonContracting := [0]
  rhsNonContracting := [1]
  lhsBatch := []
  rhsBatch := []
  wf := by decide

/-- The product of a 16 by 512 matrix with a 512 by 8 one. -/
def dotSel : DotDims (Shp 16 512) (Shp 512 8) (Shp 16 8) where
  lhsContracting := [1]
  rhsContracting := [0]
  lhsNonContracting := [0]
  rhsNonContracting := [1]
  lhsBatch := []
  rhsBatch := []
  wf := by decide

/-- A column of zeros. -/
def zeroCol : Mat F 512 1 := broadcast (Shp 512 1) (Scalar.ofBits .f32 0x00000000#32)

/-- `m` times the column `v`. -/
def mulCol (m : Mat F 512 512) (v : Mat F 512 1) : Mat F 512 1 :=
  matmul dotCol none m v (constant (Shp 512 1) .f32 0x00000000#32)

/-- A block's own suppression matrix below the diagonal. -/
def below (m : Mat F 512 512) : Mat F 512 512 :=
  select (cmpi .slt (iota .tc (Shp 512 512) 32 [1] (by decide)) (iota .tc (Shp 512 512) 32 [0] (by decide))) m
    (broadcast (Shp 512 512) (Scalar.ofBits .f32 0x00000000#32))

/-- The rows still in play: score above the threshold and not suppressed by an earlier block. -/
def initOf (score supp : Mat F 512 1) : Mat F 512 1 :=
  sitofp .f32 (extui 32 (andi (cmpf .ogt score (broadcast (Shp 512 1) (Scalar.ofBits .f32 0x3D4CCCCD#32)))
    (cmpf .olt supp (broadcast (Shp 512 1) (Scalar.ofBits .f32 0x3F000000#32)))) (by decide))

/-- What the iteration starts from as "the one before". -/
def prevOf (init : Mat F 512 1) : Mat F 512 1 := subf init (broadcast (Shp 512 1) (Scalar.ofBits .f32 0x40000000#32))

/-- The iteration's test: fewer than 514 steps taken and some entry changed. -/
def whileTest (prev cur : Mat F 512 1) (t : BitVec 32) : BitVec 1 :=
  Scalar.andi (Scalar.cmpi .slt t 514#32)
    (Scalar.cmpf .ogt
      (extractAt ![0, 0, 0]
        (shapeCast ⟨3, ![1, 1, 1]⟩
          (multiReduction .maximumf [1, 2] ⟨1, ![1]⟩
            (shapeCast ⟨3, ![1, 512, 1]⟩
              (select (cmpf .one prev cur) (broadcast (Shp 512 1) (Scalar.ofBits .f32 0x3F800000#32))
                (broadcast (Shp 512 1) (Scalar.ofBits .f32 0x00000000#32))) (by decide))
            0xFF800000#32 (by decide) (.inl rfl) rfl) (by decide)) (by decide))
      (Scalar.ofBits (F := F) .f32 0x00000000#32))

/-- One step of the iteration. -/
def whileStep (st : Mat F 512 512) (init cur : Mat F 512 1) : Mat F 512 1 :=
  mulf init (sitofp .f32 (extui 32 (cmpf .olt (mulCol st cur) (broadcast (Shp 512 1) (Scalar.ofBits .f32 0x3F000000#32))) (by decide)))

/-! ## The results -/

/-- The rows of the first result from the table and the column of kept rows. -/
def detsOf (tbl : Mat F 5120 8) (keep : Mat F 5120 1) : Mat F 5120 8 :=
  have z : Mat F 5120 1 := broadcast (Shp 5120 1) (Scalar.ofBits .f32 0x00000000#32)
  mulf
    (concatenate (Shp 5120 8) 1
      [⟨Shp 5120 1, extractStridedSlice (Shp 5120 1) ![0, 0] tbl (by decide)⟩, ⟨Shp 5120 1, extractStridedSlice (Shp 5120 1) ![0, 1] tbl (by decide)⟩,
       ⟨Shp 5120 1, extractStridedSlice (Shp 5120 1) ![0, 2] tbl (by decide)⟩, ⟨Shp 5120 1, extractStridedSlice (Shp 5120 1) ![0, 3] tbl (by decide)⟩,
       ⟨Shp 5120 1, extractStridedSlice (Shp 5120 1) ![0, 5] tbl (by decide)⟩, ⟨Shp 5120 1, z⟩, ⟨Shp 5120 1, z⟩, ⟨Shp 5120 1, z⟩] concat_eight)
    (broadcastTo (Shp 5120 8) keep (by decide))

/-- The matrix of ones on and below the diagonal. -/
def ltri : Mat F 512 512 :=
  sitofp .f32 (extui 32 (cmpi .sle (iota .tc (Shp 512 512) 32 [1] (by decide)) (iota .tc (Shp 512 512) 32 [0] (by decide))) (by decide))

/-- The ranks 1 to 16. -/
def kf : Mat F 1 16 :=
  sitofp .f32 (addi (iota .tc (Shp 1 16) 32 [1] (by decide)) (broadcast (Shp 1 16) 1#32))

/-- A block's kept rows with their rank, given the number kept before: the rows of each rank, as a matrix of 0 and 1. -/
def selOf (carry : F .f32) (kj : Mat F 512 1) : Mat F 512 16 :=
  sitofp .f32 (extui 32 (andi
    (cmpf .oeq (broadcastTo (Shp 512 16) (addf (mulCol ltri kj) (broadcast (Shp 512 1) carry)) (by decide)) (broadcastTo (Shp 512 16) kf (by decide)))
    (broadcastTo (Shp 512 16) (cmpf .ogt kj (broadcast (Shp 512 1) (Scalar.ofBits .f32 0x3F000000#32))) (by decide))) (by decide))

/-- The number kept after the block. -/
def carryOf (carry : F .f32) (kj : Mat F 512 1) : F .f32 :=
  Scalar.addf carry
    (extractAt ![0, 0, 0]
      (shapeCast ⟨3, ![1, 1, 1]⟩
        (multiReduction .add [1, 2] ⟨1, ![1]⟩ (shapeCast ⟨3, ![1, 512, 1]⟩ kj (by decide)) 0x00000000#32 (by decide) (.inl rfl) rfl)
        (by decide)) (by decide))

/-- The second result after the block. -/
def accOf (acc : Mat F 16 8) (sel : Mat F 512 16) (dj : Mat F 512 8) : Mat F 16 8 :=
  addf acc (matmul dotSel (some .fp32) (transpose (Shp 16 512) [1, 0] sel (by decide)) (shapeCast (Shp 512 8) dj (by decide))
    (constant (Shp 16 8) .f32 0x00000000#32))

/-! ## The program -/

section Program

variable {nD : ℕ} {τ : Topo} {sig : RefSig} {Λ : Labels}

/-- The kernel's programs. -/
abbrev KProg (nD : ℕ) (τ : Topo) (sig : RefSig) (F : FTy → Type) (Λ : Labels) (α : Type) := Prog (TpuEff nD τ sig (Elt F) Λ .tc) α

/-- A `c` by `d` block is inside an `a` by `b` array at `i, j`. -/
theorem inb_of {a b c d i j : ℕ} (h0 : i + c ≤ a) (h1 : j + d ≤ b) :
    ∀ x, (![i, j] : Fin 2 → ℕ) x + (Shp c d).size x ≤ (Shp a b).size x :=
  fun x => by fin_cases x; exacts [h0, h1]

/-- The block's rectangle. -/
abbrev blkR (a b i j c d : ℕ) (h0 : i + c ≤ a) (h1 : j + d ≤ b) : Rect (Shp a b) :=
  Rect.unit (s := Shp a b) ![i, j] (Shp c d).size (inb_of h0 h1)

/-- Load the block, then go on with it. -/
def ldK {a b : ℕ} {β : Type} (m : Memref sig .tc .vmem (Shp a b) .f32) (i j c d : ℕ) (hp : 0 < (Shp c d).numel)
    (h0 : i + c ≤ a) (h1 : j + d ≤ b) (k : Mat F c d → KProg nD τ sig F Λ β) : KProg nD τ sig F Λ β :=
  .op (TpuEff.load (e := .f32) m (blkR a b i j c d h0 h1).toLoadRect (View.loadsAt_vmem hp)) k

/-- Store the block, then go on. -/
def stK {a b : ℕ} {β : Type} (m : Memref sig .tc .vmem (Shp a b) .f32) (i j c d : ℕ) (hp : 0 < (Shp c d).numel)
    (h0 : i + c ≤ a) (h1 : j + d ≤ b) (v : Mat F c d) (k : KProg nD τ sig F Λ β) : KProg nD τ sig F Λ β :=
  .op (.store m (blkR a b i j c d h0 h1) v Finset.univ (View.stores_vmem_bits_univ hp rfl) (.inl rfl)) fun _ => k

/-- Load the block (what it held is not used), store over it, then go on. -/
def putK {a b : ℕ} {β : Type} (m : Memref sig .tc .vmem (Shp a b) .f32) (i j c d : ℕ) (hp : 0 < (Shp c d).numel)
    (h0 : i + c ≤ a) (h1 : j + d ≤ b) (v : Mat F c d) (k : KProg nD τ sig F Λ β) : KProg nD τ sig F Λ β :=
  ldK m i j c d hp h0 h1 fun _ => stK m i j c d hp h0 h1 v k

/-- A shape cast to the same shape. -/
abbrev same {a b : ℕ} (v : Mat F a b) : Mat F a b := shapeCast (Shp a b) v rfl

/-- Block `j` of the two tables, from the sorted arrays. -/
def fillK {β : Type} (tbl : Memref sig .tc .vmem (Shp 5120 8) .f32) (tblt : Memref sig .tc .vmem (Shp 8 5120) .f32)
    (a : Sorted F) (j : Fin 10) (k : KProg nD τ sig F Λ β) : KProg nD τ sig F Λ β :=
  have cx1 : Mat F 1 512 := edge (Shp 1 512) (colview j a.x)
  have cy1 : Mat F 1 512 := edge (Shp 1 512) (colview j a.y)
  have cx2 : Mat F 1 512 := edge2 (Shp 1 512) cx1 (colview j a.w)
  have cy2 : Mat F 1 512 := edge2 (Shp 1 512) cy1 (colview j a.h)
  have rx1 : Mat F 512 1 := edge (Shp 512 1) (rowview j a.x)
  have ry1 : Mat F 512 1 := edge (Shp 512 1) (rowview j a.y)
  have rx2 : Mat F 512 1 := edge2 (Shp 512 1) rx1 (rowview j a.w)
  have ry2 : Mat F 512 1 := edge2 (Shp 512 1) ry1 (rowview j a.h)
  putK tblt 0 (512 * j.val) 1 512 (by decide) (by omega) (by omega) (same cx1) <|
  putK tblt 1 (512 * j.val) 1 512 (by decide) (by omega) (by omega) (same cy1) <|
  putK tblt 2 (512 * j.val) 1 512 (by decide) (by omega) (by omega) (same cx2) <|
  putK tblt 3 (512 * j.val) 1 512 (by decide) (by omega) (by omega) (same cy2) <|
  putK tblt 4 (512 * j.val) 1 512 (by decide) (by omega) (by omega) (same (areaOf (Shp 1 512) cx1 cy1 cx2 cy2)) <|
  putK tbl (512 * j.val) 0 512 1 (by decide) (by omega) (by omega) (same rx1) <|
  putK tbl (512 * j.val) 1 512 1 (by decide) (by omega) (by omega) (same ry1) <|
  putK tbl (512 * j.val) 2 512 1 (by decide) (by omega) (by omega) (same rx2) <|
  putK tbl (512 * j.val) 3 512 1 (by decide) (by omega) (by omega) (same ry2) <|
  putK tbl (512 * j.val) 4 512 1 (by decide) (by omega) (by omega) (same (areaOf (Shp 512 1) rx1 ry1 rx2 ry2)) <|
  putK tbl (512 * j.val) 5 512 1 (by decide) (by omega) (by omega) (same (rowview j a.key)) k

/-- The tables' blocks in order. -/
def fillsK {β : Type} (tbl : Memref sig .tc .vmem (Shp 5120 8) .f32) (tblt : Memref sig .tc .vmem (Shp 8 5120) .f32)
    (a : Sorted F) : List (Fin 10) → KProg nD τ sig F Λ β → KProg nD τ sig F Λ β
  | [], k => k
  | j :: L, k => fillK tbl tblt a j (fillsK tbl tblt a L k)

/-- How often each row of a block is suppressed by the kept rows of earlier blocks. -/
def suppK {β : Type} (tblt : Memref sig .tc .vmem (Shp 8 5120) .f32) (keep : Memref sig .tc .vmem (Shp 5120 1) .f32)
    (row : Mat F 512 8) : List (Fin 10) → Mat F 512 1 → (Mat F 512 1 → KProg nD τ sig F Λ β) → KProg nD τ sig F Λ β
  | [], s, k => k s
  | i :: L, s, k =>
    ldK tblt 0 (512 * i.val) 8 512 (by decide) (by omega) (by omega) fun col =>
    ldK keep (512 * i.val) 0 512 1 (by decide) (by omega) (by omega) fun kb =>
    suppK tblt keep row L (addf s (mulCol (supOf row col) kb)) k

/-- The loop of a block, by its label. -/
abbrev WhileCall (nD : ℕ) (τ : Topo) (sig : RefSig) (F : FTy → Type) (Λ : Labels) :=
  Fin 10 → Mat F 512 512 → Mat F 512 1 → Mat F 512 1 → Mat F 512 1 → BitVec 32 → KProg nD τ sig F Λ (Mat F 512 1 × Mat F 512 1 × BitVec 32)

/-- The loop of a block: while the test holds, a step, then the loop again. -/
def loopK (self : Mat F 512 512 → Mat F 512 1 → Mat F 512 1 → Mat F 512 1 → BitVec 32 → KProg nD τ sig F Λ (Mat F 512 1 × Mat F 512 1 × BitVec 32))
    (st : Mat F 512 512) (init prev cur : Mat F 512 1) (t : BitVec 32) : KProg nD τ sig F Λ (Mat F 512 1 × Mat F 512 1 × BitVec 32) :=
  if whileTest prev cur t = 1#1 then self st init cur (whileStep st init cur) (Scalar.addi t 1#32) else .ret (prev, cur, t)

/-- The kept rows of block `j`. -/
def keepK {β : Type} (wc : WhileCall nD τ sig F Λ) (tbl : Memref sig .tc .vmem (Shp 5120 8) .f32)
    (tblt : Memref sig .tc .vmem (Shp 8 5120) .f32) (keep : Memref sig .tc .vmem (Shp 5120 1) .f32)
    (j : Fin 10) (k : KProg nD τ sig F Λ β) : KProg nD τ sig F Λ β :=
  ldK tblt 0 (512 * j.val) 8 512 (by decide) (by omega) (by omega) fun col =>
  ldK tbl (512 * j.val) 0 512 8 (by decide) (by omega) (by omega) fun row =>
  suppK tblt keep row ((List.finRange 10).take j.val) zeroCol fun supp =>
  ldK tbl (512 * j.val) 5 512 1 (by decide) (by omega) (by omega) fun score =>
  (wc j (below (supOf row col)) (initOf score supp) (prevOf (initOf score supp)) (initOf score supp) 0#32).bind fun r =>
  putK keep (512 * j.val) 0 512 1 (by decide) (by omega) (by omega) (same r.2.1) k

/-- The blocks in order. -/
def keepsK {β : Type} (wc : WhileCall nD τ sig F Λ) (tbl : Memref sig .tc .vmem (Shp 5120 8) .f32)
    (tblt : Memref sig .tc .vmem (Shp 8 5120) .f32) (keep : Memref sig .tc .vmem (Shp 5120 1) .f32) :
    List (Fin 10) → KProg nD τ sig F Λ β → KProg nD τ sig F Λ β
  | [], k => k
  | j :: L, k => keepK wc tbl tblt keep j (keepsK wc tbl tblt keep L k)

/-- The selection of the first 15 kept rows, block by block. -/
def topK {β : Type} (keep : Memref sig .tc .vmem (Shp 5120 1) .f32) (dets : Memref sig .tc .vmem (Shp 5120 8) .f32) :
    List (Fin 10) → F .f32 → Mat F 16 8 → (Mat F 16 8 → KProg nD τ sig F Λ β) → KProg nD τ sig F Λ β
  | [], _, acc, k => k acc
  | j :: L, carry, acc, k =>
    ldK keep (512 * j.val) 0 512 1 (by decide) (by omega) (by omega) fun kj =>
    ldK dets (512 * j.val) 0 512 8 (by decide) (by omega) (by omega) fun dj =>
    topK keep dets L (carryOf carry kj) (accOf acc (selOf carry kj) dj) k

/-- The kernel's body. -/
def bodyK (wc : WhileCall nD τ sig F Λ) (sc x y w h : Memref sig .tc .vmem (Shp 64 128) .f32)
    (dets : Memref sig .tc .vmem (Shp 5120 8) .f32) (top : Memref sig .tc .vmem (Shp 16 8) .f32)
    (tbl : Memref sig .tc .vmem (Shp 5120 8) .f32) (tblt : Memref sig .tc .vmem (Shp 8 5120) .f32)
    (keep : Memref sig .tc .vmem (Shp 5120 1) .f32) : KProg nD τ sig F Λ PUnit :=
  ldK sc 0 0 64 128 (by decide) (by omega) (by omega) fun a0 =>
  ldK x 0 0 64 128 (by decide) (by omega) (by omega) fun a1 =>
  ldK y 0 0 64 128 (by decide) (by omega) (by omega) fun a2 =>
  ldK w 0 0 64 128 (by decide) (by omega) (by omega) fun a3 =>
  ldK h 0 0 64 128 (by decide) (by omega) (by omega) fun a4 =>
  fillsK tbl tblt (runStages stages ⟨same a0, posW, same a1, same a2, same a3, same a4⟩) (List.finRange 10) <|
  keepsK wc tbl tblt keep (List.finRange 10) <|
  ldK keep 0 0 5120 1 (by decide) (by omega) (by omega) fun ks =>
  ldK tbl 0 0 5120 8 (by decide) (by omega) (by omega) fun blk =>
  putK dets 0 0 5120 8 (by decide) (by omega) (by omega) (detsOf blk ks) <|
  topK keep dets (List.finRange 10) (Scalar.ofBits .f32 0x00000000#32) (broadcast (Shp 16 8) (Scalar.ofBits .f32 0x00000000#32)) fun acc =>
  putK top 0 0 16 8 (by decide) (by omega) (by omega) acc (.ret ⟨⟩)

end Program

end Cert.Nms

end
-- ==== Proof.Wp.lean ====
/-
  What the body with loops leaves in its buffers, as functions of what they held, and that every run of the body leaves
  that. It is stated for any signature, labels and float values.
-/
module

public import proofs.«01_k».proof.Proof.Struct
public import Idealize.ShloMosaic.Lib.VecWindow
public import Idealize.ShloMosaic.Lib.Tactic
public import Idealize.ShloMosaic.Lib.Pipeline.Kit

@[expose] public section

noncomputable section

namespace Cert.Nms

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The buffers' contents after each part -/

section Values

/-- The block at `i, j` of an array, -/
def blk {a b : ℕ} (X : Mat F a b) (i j c d : ℕ) (h0 : i + c ≤ a) (h1 : j + d ≤ b) : Mat F c d :=
  VecWindow.window (s := Shp a b) X ![i, j] (Shp c d).size (inb_of h0 h1)

/-- and the array with a block put there. -/
def ins {a b c d : ℕ} (X : Mat F a b) (i j : ℕ) (v : Mat F c d) : Mat F a b :=
  VecWindow.put (s := Shp a b) X ![i, j] (Shp c d).size v

/-- The transposed table after block `j` is written. -/
def fillT' (a : Sorted F) (j : Fin 10) (Y : Mat F 8 5120) : Mat F 8 5120 :=
  have cx1 : Mat F 1 512 := edge (Shp 1 512) (colview j a.x)
  have cy1 : Mat F 1 512 := edge (Shp 1 512) (colview j a.y)
  have cx2 : Mat F 1 512 := edge2 (Shp 1 512) cx1 (colview j a.w)
  have cy2 : Mat F 1 512 := edge2 (Shp 1 512) cy1 (colview j a.h)
  ins (ins (ins (ins (ins Y 0 (512 * j.val) (same cx1)) 1 (512 * j.val) (same cy1)) 2 (512 * j.val) (same cx2))
    3 (512 * j.val) (same cy2)) 4 (512 * j.val) (same (areaOf (Shp 1 512) cx1 cy1 cx2 cy2))

/-- The table after block `j` is written. -/
def fillT (a : Sorted F) (j : Fin 10) (X : Mat F 5120 8) : Mat F 5120 8 :=
  have rx1 : Mat F 512 1 := edge (Shp 512 1) (rowview j a.x)
  have ry1 : Mat F 512 1 := edge (Shp 512 1) (rowview j a.y)
  have rx2 : Mat F 512 1 := edge2 (Shp 512 1) rx1 (rowview j a.w)
  have ry2 : Mat F 512 1 := edge2 (Shp 512 1) ry1 (rowview j a.h)
  ins (ins (ins (ins (ins (ins X (512 * j.val) 0 (same rx1)) (512 * j.val) 1 (same ry1)) (512 * j.val) 2 (same rx2))
    (512 * j.val) 3 (same ry2)) (512 * j.val) 4 (same (areaOf (Shp 512 1) rx1 ry1 rx2 ry2))) (512 * j.val) 5 (same (rowview j a.key))

/-- Both after a list of blocks. -/
def fillsT' (a : Sorted F) (L : List (Fin 10)) (Y : Mat F 8 5120) : Mat F 8 5120 := L.foldl (fun Y j => fillT' a j Y) Y
def fillsT (a : Sorted F) (L : List (Fin 10)) (X : Mat F 5120 8) : Mat F 5120 8 := L.foldl (fun X j => fillT a j X) X

/-- Block `j` of the table, of the transposed table, of the column of kept rows. -/
def rowBlk (X : Mat F 5120 8) (j : Fin 10) : Mat F 512 8 := blk X (512 * j.val) 0 512 8 (by omega) (by omega)
def colBlk (Y : Mat F 8 5120) (j : Fin 10) : Mat F 8 512 := blk Y 0 (512 * j.val) 8 512 (by omega) (by omega)
def keepBlk (K : Mat F 5120 1) (j : Fin 10) : Mat F 512 1 := blk K (512 * j.val) 0 512 1 (by omega) (by omega)
def scoreBlk (X : Mat F 5120 8) (j : Fin 10) : Mat F 512 1 := blk X (512 * j.val) 5 512 1 (by omega) (by omega)

/-- How often the rows of a block are suppressed by the blocks of a list. -/
def suppV (Y : Mat F 8 5120) (K : Mat F 5120 1) (row : Mat F 512 8) (L : List (Fin 10)) (s : Mat F 512 1) : Mat F 512 1 :=
  L.foldl (fun s i => addf s (mulCol (supOf row (colBlk Y i)) (keepBlk K i))) s

/-- What the loop of a block ends with, at most `n` steps from its end. -/
def loopV (st : Mat F 512 512) (init : Mat F 512 1) : ℕ → Mat F 512 1 → Mat F 512 1 → BitVec 32 → Mat F 512 1 × Mat F 512 1 × BitVec 32
  | 0, prev, cur, t => (prev, cur, t)
  | n + 1, prev, cur, t =>
    if whileTest prev cur t = 1#1 then loopV st init n cur (whileStep st init cur) (Scalar.addi t 1#32) else (prev, cur, t)

/-- The rows of block `j` in play at the loop's start, given the kept rows of the earlier blocks. -/
def initV (X : Mat F 5120 8) (Y : Mat F 8 5120) (j : Fin 10) (K : Mat F 5120 1) : Mat F 512 1 :=
  initOf (scoreBlk X j) (suppV Y K (rowBlk X j) ((List.finRange 10).take j.val) zeroCol)

/-- The kept rows of block `j`. -/
def keptV (X : Mat F 5120 8) (Y : Mat F 8 5120) (j : Fin 10) (K : Mat F 5120 1) : Mat F 512 1 :=
  (loopV (below (supOf (rowBlk X j) (colBlk Y j))) (initV X Y j K) 514 (prevOf (initV X Y j K)) (initV X Y j K) 0#32).2.1

/-- The column of kept rows after block `j`, and after a list of blocks. -/
def keepV (X : Mat F 5120 8) (Y : Mat F 8 5120) (j : Fin 10) (K : Mat F 5120 1) : Mat F 5120 1 :=
  ins K (512 * j.val) 0 (same (keptV X Y j K))
def keepsV (X : Mat F 5120 8) (Y : Mat F 8 5120) (L : List (Fin 10)) (K : Mat F 5120 1) : Mat F 5120 1 :=
  L.foldl (fun K j => keepV X Y j K) K

/-- The second result after a list of blocks. -/
def topV (K : Mat F 5120 1) (D : Mat F 5120 8) : List (Fin 10) → F .f32 → Mat F 16 8 → Mat F 16 8
  | [], _, acc => acc
  | j :: L, carry, acc => topV K D L (carryOf carry (keepBlk K j)) (accOf acc (selOf carry (keepBlk K j)) (rowBlk D j))

/-- The second result. -/
def topOf (K : Mat F 5120 1) (D : Mat F 5120 8) : Mat F 16 8 :=
  topV K D (List.finRange 10) (Scalar.ofBits .f32 0x00000000#32) (broadcast (Shp 16 8) (Scalar.ofBits .f32 0x00000000#32))

/-- The sorted arrays from the five inputs. -/
def sortedOf (sc x y w h : Mat F 64 128) : Sorted F := runStages stages ⟨same sc, posW, same x, same y, same w, same h⟩

end Values

/-! ## The runs -/

/-- The resource the launch library works over. -/
abbrev Mod (nD : ℕ) (τ : Topo) (sig : RefSig) (F : FTy → Type) (U : Type) [URA U] : Type := MT nD τ sig Unit (Elt F) ℕ U ℕ

section Wp

variable {nD : ℕ} {τ : Topo} {sig : RefSig} {Λ : Labels} {U : Type} [URA U]
variable (defs : Defs nD τ sig (Elt F) Λ) (c : Dev nD)

/-- The weakest precondition of a program of core `c`, entered at the bound `bd`. -/
abbrev W {α : Type} (bd : Option ℕ) (p : KProg nD τ sig F Λ α) (Q : α → sProp (Mod nD τ sig F U)) : sProp (Mod nD τ sig F U) :=
  wp frame (wpE defs Variants.nat (c : Thread nD τ) bd) Set.univ p Q

/-- Core `c` holds the memref whole, reading `X` through it. -/
abbrev has {s : Shape} (m : Memref sig .tc .vmem s .f32) (X : FVec F s .f32) : sProp (Mod nD τ sig F U) :=
  owns (Ix := Unit) (Name := ℕ) (U := U) (Lvl := ℕ) (c : Thread nD τ) m fullShare X

variable {c}

/-- A load reads the block. -/
theorem wp_ldK {a b : ℕ} {β : Type} (bd : Option ℕ) {m : Memref sig .tc .vmem (Shp a b) .f32} {i j r d : ℕ} {hp : 0 < (Shp r d).numel}
    {h0 : i + r ≤ a} {h1 : j + d ≤ b} {k : Mat F r d → KProg nD τ sig F Λ β} {X : Mat F a b} {Q : β → sProp (Mod nD τ sig F U)} :
    has c m X ⊢ iprop((has c m X -∗ W defs c bd (k (blk X i j r d h0 h1)) Q) -∗ W defs c bd (ldK m i j r d hp h0 h1 k) Q) := by
  unfold ldK has owns
  iintro ⟨%f, %hf, H⟩ Hk
  subst hf
  iapply (wp_load Variants.nat (c : Thread nD τ) bd Set.univ (m := m) (r := (blkR a b i j r d h0 h1).toLoadRect) (m.view.setOn_subset_set _)) $$ H
  iintro H
  iapply Hk
  iexists f
  isplitr
  · ipureintro; rfl
  iexact H

/-- A store after a load leaves the block put there. -/
theorem wp_putK {a b : ℕ} {β : Type} (bd : Option ℕ) {m : Memref sig .tc .vmem (Shp a b) .f32} {i j r d : ℕ} {hp : 0 < (Shp r d).numel}
    {h0 : i + r ≤ a} {h1 : j + d ≤ b} {v : Mat F r d} {k : KProg nD τ sig F Λ β} {X : Mat F a b} {Q : β → sProp (Mod nD τ sig F U)} :
    has c m X ⊢ iprop((has c m (ins X i j v) -∗ W defs c bd k Q) -∗ W defs c bd (putK m i j r d hp h0 h1 v k) Q) := by
  unfold putK
  iintro H Hk
  iapply (wp_ldK defs bd) $$ H
  iintro H
  unfold stK has owns
  icases H with ⟨%f, %hf, H⟩
  subst hf
  iapply (wp_store Variants.nat (c : Thread nD τ) bd Set.univ (m := m) (r := blkR a b i j r d h0 h1) (Mk := Finset.univ)
    ((m.setOn_access_subset_setOn _ _).trans (m.view.setOn_subset_set _))) $$ H
  iintro H
  iapply Hk
  iexists _
  isplitr; swap
  · iexact H
  ipureintro
  exact m.view.read_writes_cons_put f (size := (Shp r d).size) (inb_of h0 h1) v [] rfl

/-- Block `j` of the tables. -/
theorem wp_fillK {β : Type} {tbl : Memref sig .tc .vmem (Shp 5120 8) .f32} {tblt : Memref sig .tc .vmem (Shp 8 5120) .f32}
    {a : Sorted F} {j : Fin 10} {k : KProg nD τ sig F Λ β} {X : Mat F 5120 8} {Y : Mat F 8 5120} {Q : β → sProp (Mod nD τ sig F U)} :
    iprop(has c tbl X ∗ has c tblt Y) ⊢ iprop((has c tbl (fillT a j X) -∗ has c tblt (fillT' a j Y) -∗ W defs c none k Q)
      -∗ W defs c none (fillK tbl tblt a j k) Q) := by
  unfold fillK fillT fillT'
  iintro ⟨HX, HY⟩ Hk
  iapply (wp_putK defs none) $$ HY; iintro HY
  iapply (wp_putK defs none) $$ HY; iintro HY
  iapply (wp_putK defs none) $$ HY; iintro HY
  iapply (wp_putK defs none) $$ HY; iintro HY
  iapply (wp_putK defs none) $$ HY; iintro HY
  iapply (wp_putK defs none) $$ HX; iintro HX
  iapply (wp_putK defs none) $$ HX; iintro HX
  iapply (wp_putK defs none) $$ HX; iintro HX
  iapply (wp_putK defs none) $$ HX; iintro HX
  iapply (wp_putK defs none) $$ HX; iintro HX
  iapply (wp_putK defs none) $$ HX; iintro HX
  iapply Hk $$ HX HY

/-- The tables, block by block. -/
theorem wp_fillsK {β : Type} {tbl : Memref sig .tc .vmem (Shp 5120 8) .f32} {tblt : Memref sig .tc .vmem (Shp 8 5120) .f32}
    {a : Sorted F} {k : KProg nD τ sig F Λ β} {Q : β → sProp (Mod nD τ sig F U)} (L : List (Fin 10)) : ∀ (X : Mat F 5120 8) (Y : Mat F 8 5120),
    iprop(has c tbl X ∗ has c tblt Y) ⊢ iprop((has c tbl (fillsT a L X) -∗ has c tblt (fillsT' a L Y) -∗ W defs c none k Q)
      -∗ W defs c none (fillsK tbl tblt a L k) Q) := by
  induction L with
  | nil =>
    intro X Y
    simp only [fillsT, fillsT', fillsK, List.foldl_nil]
    iintro ⟨HX, HY⟩ Hk
    iapply Hk $$ HX HY
  | cons j L ih =>
    intro X Y
    unfold fillsK
    iintro H Hk
    iapply (wp_fillK defs) $$ H
    iintro HX HY
    iapply (ih (fillT a j X) (fillT' a j Y)) $$ [HX HY]
    · isplitl [HX]
      · iexact HX
      iexact HY
    iexact Hk

/-- The suppression by a list of blocks. -/
theorem wp_suppK {β : Type} {tblt : Memref sig .tc .vmem (Shp 8 5120) .f32} {keep : Memref sig .tc .vmem (Shp 5120 1) .f32}
    {row : Mat F 512 8} {k : Mat F 512 1 → KProg nD τ sig F Λ β} {Q : β → sProp (Mod nD τ sig F U)} {Y : Mat F 8 5120} {K : Mat F 5120 1}
    (L : List (Fin 10)) : ∀ s : Mat F 512 1,
    iprop(has c tblt Y ∗ has c keep K) ⊢ iprop((has c tblt Y -∗ has c keep K -∗ W defs c none (k (suppV Y K row L s)) Q)
      -∗ W defs c none (suppK tblt keep row L s k) Q) := by
  induction L with
  | nil =>
    intro s
    iintro ⟨HX, HY⟩ Hk
    iapply Hk $$ HX HY
  | cons j L ih =>
    intro s
    unfold suppK
    iintro ⟨HY, HK⟩ Hk
    iapply (wp_ldK defs none) $$ HY; iintro HY
    iapply (wp_ldK defs none) $$ HK; iintro HK
    iapply (ih _) $$ [HY HK]
    · isplitl [HY]
      · iexact HY
      iexact HK
    iexact Hk

/-- What is asked of a block's loop: entered below any bound, it runs as the loop written out. -/
def RunsLoop (U : Type) [URA U] (self : Mat F 512 512 → Mat F 512 1 → Mat F 512 1 → Mat F 512 1 → BitVec 32 → KProg nD τ sig F Λ (Mat F 512 1 × Mat F 512 1 × BitVec 32)) : Prop :=
  ∀ (c : Dev nD) (bd : Option ℕ) (v : ℕ), (∀ u ∈ bd, v < u) → ∀ (st : Mat F 512 512) (init prev cur : Mat F 512 1) (t : BitVec 32)
    (r : Mat F 512 1 × Mat F 512 1 × BitVec 32), (∀ Q : _ → sProp (Mod nD τ sig F U), Q r ⊢ W defs c (some v) (loopK self st init prev cur t) Q) →
    ∀ Q : _ → sProp (Mod nD τ sig F U), Q r ⊢ W defs c bd (self st init prev cur t) Q

/-- A call runs as what its label stands for, below the bound. -/
theorem runs_call {l : Λ.Label} {a : Λ.Args l} {bd : Option ℕ} {v : ℕ} (hv : ∀ u ∈ bd, v < u) (r : Λ.Result l)
    {p : KProg nD τ sig F Λ (Λ.Result l)} (e : defs .tc l a = p)
    (h : ∀ Q : Λ.Result l → sProp (Mod nD τ sig F U), Q r ⊢ wp frame (wpE defs Variants.nat (c : Thread nD τ) (some v)) Set.univ p Q)
    (Q : Λ.Result l → sProp (Mod nD τ sig F U)) :
    Q r ⊢ wp frame (wpE defs Variants.nat (c : Thread nD τ) bd) Set.univ (Prog.lift (.call l a)) Q := by
  subst e
  refine BI.BIBase.Entails.trans ?_ (wp_call_spec Variants.nat (c : Thread nD τ) bd Set.univ (k := .ret) (pure r) v hv (fun K => h K))
  show Q r ⊢ wp frame (wpE defs Variants.nat (c : Thread nD τ) bd) Set.univ (Prog.ret r) Q
  iintro H
  rw [wp_ret]; imodintro
  iexact H

theorem whileTest_end (prev cur : Mat F 512 1) : ¬ whileTest prev cur 514#32 = 1#1 := by
  unfold whileTest
  generalize Scalar.cmpf (F := F) (φ := .f32) .ogt _ _ = b
  revert b
  decide

/-- The loop entered with `n` steps to go. -/
theorem wp_loop {self} (hs : RunsLoop (F := F) defs U self) (c : Dev nD) (st : Mat F 512 512) (init : Mat F 512 1) :
    ∀ n ≤ 514, ∀ (prev cur : Mat F 512 1) (Q : _ → sProp (Mod nD τ sig F U)),
      Q (loopV st init n prev cur (BitVec.ofNat 32 (514 - n))) ⊢ W defs c (some n) (loopK self st init prev cur (BitVec.ofNat 32 (514 - n))) Q := by
  intro n
  induction n with
  | zero =>
    intro _ prev cur Q
    unfold loopK loopV
    rw [if_neg (whileTest_end prev cur)]
    iintro H
    unfold W; rw [wp_ret]; imodintro
    iexact H
  | succ n ih =>
    intro hn prev cur Q
    unfold loopK loopV
    by_cases h : whileTest prev cur (BitVec.ofNat 32 (514 - (n + 1))) = 1#1
    · rw [if_pos h, if_pos h]
      have ht : Scalar.addi (BitVec.ofNat 32 (514 - (n + 1))) 1#32 = BitVec.ofNat 32 (514 - n) := by
        show BitVec.ofNat 32 (514 - (n + 1)) + 1#32 = _
        rw [← BitVec.ofNat_add]
        congr 1; omega
      rw [ht]
      exact hs c (some (n + 1)) n (fun u hu => by cases hu; exact Nat.lt_succ_self n) st init cur _ _ _
        (fun Q => ih (by omega) _ _ Q) Q
    · rw [if_neg h, if_neg h]
      iintro H
      unfold W; rw [wp_ret]; imodintro
      iexact H

variable {wc : WhileCall nD τ sig F Λ} (hwc : ∀ j, RunsLoop (F := F) defs U (wc j))

include hwc in
/-- The loop of block `j` from its start, then the rest. -/
theorem wp_call {β : Type} {j : Fin 10} {st : Mat F 512 512} {init prev : Mat F 512 1} {k : _ → KProg nD τ sig F Λ β} {Q : β → sProp (Mod nD τ sig F U)} :
    W defs c none (k (loopV st init 514 prev init 0#32)) Q ⊢ W defs c none ((wc j st init prev init 0#32).bind k) Q :=
  (hwc j c none 514 (fun u hu => nomatch hu) st init prev init 0#32 _ (fun Q => wp_loop defs (hwc j) c st init 514 (le_refl _) prev init Q)
    (fun r => W defs c none (k r) Q)).trans
  (BI.BIBase.Entails.of_eq (wp_bind frame (wpE defs Variants.nat (c : Thread nD τ) none) Set.univ (wc j st init prev init 0#32) k Q).symm)

include hwc in
/-- The kept rows of block `j`. -/
theorem wp_keepK {β : Type} {tbl : Memref sig .tc .vmem (Shp 5120 8) .f32} {tblt : Memref sig .tc .vmem (Shp 8 5120) .f32}
    {keep : Memref sig .tc .vmem (Shp 5120 1) .f32} {j : Fin 10} {k : KProg nD τ sig F Λ β} {X : Mat F 5120 8} {Y : Mat F 8 5120}
    {K : Mat F 5120 1} {Q : β → sProp (Mod nD τ sig F U)} :
    iprop(has c tbl X ∗ has c tblt Y ∗ has c keep K)
      ⊢ iprop((has c tbl X -∗ has c tblt Y -∗ has c keep (keepV X Y j K) -∗ W defs c none k Q)
        -∗ W defs c none (keepK wc tbl tblt keep j k) Q) := by
  unfold keepK keepV keptV initV rowBlk colBlk scoreBlk
  iintro ⟨HX, HY, HK⟩ Hk
  iapply (wp_ldK defs none) $$ HY; iintro HY
  iapply (wp_ldK defs none) $$ HX; iintro HX
  iapply (wp_suppK defs _ _) $$ [HY HK]
  · isplitl [HY]
    · iexact HY
    iexact HK
  iintro HY HK
  iapply (wp_ldK defs none) $$ HX; iintro HX
  iapply (wp_call defs hwc)
  iapply (wp_putK defs none) $$ HK; iintro HK
  iapply Hk $$ HX HY HK

include hwc in
/-- The kept rows, block by block. -/
theorem wp_keepsK {β : Type} {tbl : Memref sig .tc .vmem (Shp 5120 8) .f32} {tblt : Memref sig .tc .vmem (Shp 8 5120) .f32}
    {keep : Memref sig .tc .vmem (Shp 5120 1) .f32} {k : KProg nD τ sig F Λ β} {X : Mat F 5120 8} {Y : Mat F 8 5120}
    {Q : β → sProp (Mod nD τ sig F U)} (L : List (Fin 10)) : ∀ K : Mat F 5120 1,
    iprop(has c tbl X ∗ has c tblt Y ∗ has c keep K)
      ⊢ iprop((has c tbl X -∗ has c tblt Y -∗ has c keep (keepsV X Y L K) -∗ W defs c none k Q)
        -∗ W defs c none (keepsK wc tbl tblt keep L k) Q) := by
  induction L with
  | nil =>
    intro K
    simp only [keepsV, keepsK, List.foldl_nil]
    iintro ⟨HX, HY, HK⟩ Hk
    iapply Hk $$ HX HY HK
  | cons j L ih =>
    intro K
    unfold keepsK
    iintro H Hk
    iapply (wp_keepK defs hwc) $$ H
    iintro HX HY HK
    iapply (ih (keepV X Y j K)) $$ [HX HY HK]
    · isplitl [HX]
      · iexact HX
      isplitl [HY]
      · iexact HY
      iexact HK
    iexact Hk

/-- The selection, block by block. -/
theorem wp_topK {β : Type} {keep : Memref sig .tc .vmem (Shp 5120 1) .f32} {dets : Memref sig .tc .vmem (Shp 5120 8) .f32}
    {k : Mat F 16 8 → KProg nD τ sig F Λ β} {Q : β → sProp (Mod nD τ sig F U)} {K : Mat F 5120 1} {D : Mat F 5120 8}
    (L : List (Fin 10)) : ∀ (carry : F .f32) (acc : Mat F 16 8),
    iprop(has c keep K ∗ has c dets D) ⊢ iprop((has c keep K -∗ has c dets D -∗ W defs c none (k (topV K D L carry acc)) Q)
      -∗ W defs c none (topK keep dets L carry acc k) Q) := by
  induction L with
  | nil =>
    intro carry acc
    iintro ⟨HX, HY⟩ Hk
    iapply Hk $$ HX HY
  | cons j L ih =>
    intro carry acc
    unfold topK
    iintro ⟨HK, HD⟩ Hk
    iapply (wp_ldK defs none) $$ HK; iintro HK
    iapply (wp_ldK defs none) $$ HD; iintro HD
    iapply (ih _ _) $$ [HK HD]
    · isplitl [HK]
      · iexact HK
      iexact HD
    iexact Hk

/-- Reading or writing an array whole. -/
theorem blk_whole {a b : ℕ} (X : Mat F a b) : blk X 0 0 a b (by omega) (by omega) = X := by
  funext p
  refine congrArg X (funext fun x => Fin.ext ?_)
  show (![0, 0] : Fin 2 → ℕ) x + 1 * (p x).val = (p x).val
  fin_cases x <;> simp

theorem ins_whole {a b : ℕ} (X v : Mat F a b) : ins X 0 0 v = v := by
  funext p
  unfold ins VecWindow.put
  rw [dif_pos (fun x => by
    have := (p x).isLt
    fin_cases x <;> exact ⟨Nat.zero_le _, by simpa using this⟩)]
  refine congrArg v (funext fun x => Fin.ext ?_)
  show (p x).val - (![0, 0] : Fin 2 → ℕ) x = (p x).val
  fin_cases x <;> simp

include hwc in
/-- The body: from five inputs and five buffers at any contents, the inputs are as they were, the two results hold what the
    functions above say, and the three tables hold something. -/
theorem wp_bodyK {sc x y w h : Memref sig .tc .vmem (Shp 64 128) .f32} {dets : Memref sig .tc .vmem (Shp 5120 8) .f32}
    {top : Memref sig .tc .vmem (Shp 16 8) .f32} {tbl : Memref sig .tc .vmem (Shp 5120 8) .f32} {tblt : Memref sig .tc .vmem (Shp 8 5120) .f32}
    {keep : Memref sig .tc .vmem (Shp 5120 1) .f32} {a0 a1 a2 a3 a4 : Mat F 64 128} {D : Mat F 5120 8} {T : Mat F 16 8}
    {X : Mat F 5120 8} {Y : Mat F 8 5120} {K : Mat F 5120 1} {Q : PUnit → sProp (Mod nD τ sig F U)} (X1 : Mat F 5120 8) (K1 : Mat F 5120 1)
    (hX1 : X1 = fillsT (sortedOf a0 a1 a2 a3 a4) (List.finRange 10) X)
    (hK1 : K1 = keepsV X1 (fillsT' (sortedOf a0 a1 a2 a3 a4) (List.finRange 10) Y) (List.finRange 10) K) :
    iprop(has c sc a0 ∗ has c x a1 ∗ has c y a2 ∗ has c w a3 ∗ has c h a4 ∗ has c dets D ∗ has c top T
        ∗ has c tbl X ∗ has c tblt Y ∗ has c keep K)
      ⊢ iprop((has c sc a0 -∗ has c x a1 -∗ has c y a2 -∗ has c w a3 -∗ has c h a4 -∗ has c dets (detsOf X1 K1)
          -∗ has c top (topOf K1 (detsOf X1 K1)) -∗ (∃ X', has c tbl X') -∗ (∃ Y', has c tblt Y') -∗ (∃ K', has c keep K') -∗ Q ⟨⟩)
        -∗ W defs c none (bodyK wc sc x y w h dets top tbl tblt keep) Q) := by
  subst hK1
  subst hX1
  unfold bodyK sortedOf topOf
  iintro ⟨H0, H1, H2, H3, H4, HD, HT, HX, HY, HK⟩ Hk
  iapply (wp_ldK defs none) $$ H0; iintro H0
  iapply (wp_ldK defs none) $$ H1; iintro H1
  iapply (wp_ldK defs none) $$ H2; iintro H2
  iapply (wp_ldK defs none) $$ H3; iintro H3
  iapply (wp_ldK defs none) $$ H4; iintro H4
  simp only [blk_whole]
  iapply (wp_fillsK defs (List.finRange 10) X Y) $$ [HX HY]
  · isplitl [HX]
    · iexact HX
    iexact HY
  iintro HX HY
  iapply (wp_keepsK defs hwc (List.finRange 10) K) $$ [HX HY HK]
  · isplitl [HX]
    · iexact HX
    isplitl [HY]
    · iexact HY
    iexact HK
  iintro HX HY HK
  iapply (wp_ldK defs none) $$ HK; iintro HK
  iapply (wp_ldK defs none) $$ HX; iintro HX
  simp only [blk_whole]
  iapply (wp_putK defs none) $$ HD; iintro HD
  rw [ins_whole]
  iapply (wp_topK defs (List.finRange 10) _ _) $$ [HK HD]
  · isplitl [HK]
    · iexact HK
    iexact HD
  iintro HK HD
  iapply (wp_putK defs none) $$ HT; iintro HT
  rw [ins_whole]
  unfold W; rw [wp_ret]; imodintro
  iapply Hk $$ H0 H1 H2 H3 H4 HD HT [HX] [HY] [HK]
  · iexists _; iexact HX
  · iexists _; iexact HY
  · iexists _; iexact HK

end Wp

end Cert.Nms

end
-- ==== Proof.Indep.lean ====
/-
  What the tables hold after they are filled, entry by entry, and that the two results do not depend on what the
  buffers held before: the kernel reads of a buffer only what it has written there.
-/
module

public import proofs.«01_k».proof.Proof.Wp
public import Idealize.ShloMosaic.Lib.Pointwise.Index

@[expose] public section

noncomputable section

namespace Cert.Nms

open Idealize.ShloMosaic

variable {F : FTy → Type} [FloatOps F]

/-- Matrices with the same entries are the same. -/
theorem mat_ext {α : Type} {a b : ℕ} {A B : (Shp a b).Idx → α} (h : ∀ (p : Fin a) (q : Fin b), A (ix2 p q) = B (ix2 p q)) : A = B := by
  funext x
  exact (congrArg A (eq_ix2 x)).trans ((h (x 0) (x 1)).trans (congrArg B (eq_ix2 x).symm))

/-- An entry of a block. -/
theorem blk_apply {a b : ℕ} (X : Mat F a b) (i j c d : ℕ) (h0 : i + c ≤ a) (h1 : j + d ≤ b) (p : Fin c) (q : Fin d) :
    blk X i j c d h0 h1 (ix2 p q) = X (ix2 ⟨i + p.val, by omega⟩ ⟨j + q.val, by omega⟩) := by
  refine congrArg X (funext fun x => Fin.ext ?_)
  show (![i, j] : Fin 2 → ℕ) x + 1 * ((ix2 p q : (Shp c d).Idx) x).val = _
  fin_cases x
  · show i + 1 * p.val = i + p.val; omega
  · show j + 1 * q.val = j + q.val; omega

/-- An entry after a block is put. -/
theorem ins_apply {a b c d : ℕ} (X : Mat F a b) (i j : ℕ) (v : Mat F c d) (p : Fin a) (q : Fin b) :
    ins X i j v (ix2 p q) = if h : (i ≤ p.val ∧ p.val < i + c) ∧ (j ≤ q.val ∧ q.val < j + d) then
      v (ix2 ⟨p.val - i, by omega⟩ ⟨q.val - j, by omega⟩) else X (ix2 p q) := by
  unfold ins VecWindow.put
  have e : (∀ x : Fin (Shp a b).rank, (![i, j] : Fin 2 → ℕ) x ≤ ((ix2 p q : (Shp a b).Idx) x).val ∧
      ((ix2 p q : (Shp a b).Idx) x).val < (![i, j] : Fin 2 → ℕ) x + (Shp c d).size x)
      ↔ (i ≤ p.val ∧ p.val < i + c) ∧ (j ≤ q.val ∧ q.val < j + d) :=
    ⟨fun h => ⟨h 0, h 1⟩, fun h x => by fin_cases x; exacts [h.1, h.2]⟩
  by_cases h : (i ≤ p.val ∧ p.val < i + c) ∧ (j ≤ q.val ∧ q.val < j + d)
  · rw [dif_pos h, dif_pos (e.mpr h)]
    refine congrArg v (funext fun x => Fin.ext ?_)
    fin_cases x <;> rfl
  · rw [dif_neg h, dif_neg (fun k => h (e.mp k))]

theorem same_eq {a b : ℕ} (v : Mat F a b) : same v = v := by
  funext p
  show v _ = v p
  exact congrArg v (by simp)

/-! ## The two tables -/

/-- Column `c` of block `j` of the table. -/
def tblCol (a : Sorted F) (j : Fin 10) (c : ℕ) : Mat F 512 1 :=
  have rx1 : Mat F 512 1 := edge (Shp 512 1) (rowview j a.x)
  have ry1 : Mat F 512 1 := edge (Shp 512 1) (rowview j a.y)
  have rx2 : Mat F 512 1 := edge2 (Shp 512 1) rx1 (rowview j a.w)
  have ry2 : Mat F 512 1 := edge2 (Shp 512 1) ry1 (rowview j a.h)
  match c with
  | 0 => rx1
  | 1 => ry1
  | 2 => rx2
  | 3 => ry2
  | 4 => areaOf (Shp 512 1) rx1 ry1 rx2 ry2
  | _ => rowview j a.key

/-- Row `r` of block `j` of the transposed table. -/
def tblRow (a : Sorted F) (j : Fin 10) (r : ℕ) : Mat F 1 512 :=
  have cx1 : Mat F 1 512 := edge (Shp 1 512) (colview j a.x)
  have cy1 : Mat F 1 512 := edge (Shp 1 512) (colview j a.y)
  have cx2 : Mat F 1 512 := edge2 (Shp 1 512) cx1 (colview j a.w)
  have cy2 : Mat F 1 512 := edge2 (Shp 1 512) cy1 (colview j a.h)
  match r with
  | 0 => cx1
  | 1 => cy1
  | 2 => cx2
  | 3 => cy2
  | _ => areaOf (Shp 1 512) cx1 cy1 cx2 cy2

theorem fillT_apply (a : Sorted F) (j : Fin 10) (X : Mat F 5120 8) (p : Fin 5120) (q : Fin 8) :
    fillT a j X (ix2 p q) = if h : (512 * j.val ≤ p.val ∧ p.val < 512 * j.val + 512) ∧ q.val < 6 then
      tblCol a j q.val (ix2 ⟨p.val - 512 * j.val, by omega⟩ 0) else X (ix2 p q) := by
  unfold fillT
  simp only [ins_apply, same_eq]
  by_cases hp : 512 * j.val ≤ p.val ∧ p.val < 512 * j.val + 512
  · fin_cases q <;> simp [hp, tblCol]
  · simp [hp]

theorem fillT'_apply (a : Sorted F) (j : Fin 10) (Y : Mat F 8 5120) (q : Fin 8) (p : Fin 5120) :
    fillT' a j Y (ix2 q p) = if h : (512 * j.val ≤ p.val ∧ p.val < 512 * j.val + 512) ∧ q.val < 5 then
      tblRow a j q.val (ix2 0 ⟨p.val - 512 * j.val, by omega⟩) else Y (ix2 q p) := by
  unfold fillT'
  simp only [ins_apply, same_eq]
  by_cases hp : 512 * j.val ≤ p.val ∧ p.val < 512 * j.val + 512
  · fin_cases q <;> simp [hp, tblRow]
  · simp [hp]

/-- The block a row is in, and its place there. -/
def blkOf (p : Fin 5120) : Fin 10 := ⟨p.val / 512, by omega⟩
def locOf (p : Fin 5120) : Fin 512 := ⟨p.val % 512, by omega⟩

theorem mem_blk (p : Fin 5120) (j : Fin 10) : (512 * j.val ≤ p.val ∧ p.val < 512 * j.val + 512) ↔ blkOf p = j := by
  rw [Fin.ext_iff]
  show _ ↔ p.val / 512 = j.val
  omega

/-- The row at place `i` of block `j`. -/
def rowAt (j : Fin 10) (i : Fin 512) : Fin 5120 := ⟨512 * j.val + i.val, by omega⟩

theorem blkOf_rowAt (j : Fin 10) (i : Fin 512) : blkOf (rowAt j i) = j := Fin.ext (by show (512 * j.val + i.val) / 512 = j.val; omega)
theorem locOf_rowAt (j : Fin 10) (i : Fin 512) : locOf (rowAt j i) = i := Fin.ext (by show (512 * j.val + i.val) % 512 = i.val; omega)

theorem fillsT_apply (a : Sorted F) (p : Fin 5120) (q : Fin 8) (L : List (Fin 10)) : ∀ X : Mat F 5120 8,
    fillsT a L X (ix2 p q) = if blkOf p ∈ L ∧ q.val < 6 then tblCol a (blkOf p) q.val (ix2 (locOf p) 0) else X (ix2 p q) := by
  induction L with
  | nil => intro X; simp [fillsT]
  | cons j L ih =>
    intro X
    show fillsT a L (fillT a j X) (ix2 p q) = _
    rw [ih, fillT_apply]
    by_cases h6 : q.val < 6
    · by_cases hL : blkOf p ∈ L
      · simp [hL, h6]
      by_cases hj : blkOf p = j
      · rw [if_neg (by simp [hL]), dif_pos ⟨(mem_blk p j).mpr hj, h6⟩, if_pos ⟨by simp [hj], h6⟩]
        subst hj
        refine congrArg (tblCol a (blkOf p) q.val) (congrArg (ix2 · 0) (Fin.ext ?_))
        show p.val - 512 * (p.val / 512) = p.val % 512
        omega
      · rw [if_neg (by simp [hL]), dif_neg (fun h => hj ((mem_blk p j).mp h.1)), if_neg (by simp [hL, hj])]
    · simp [h6]

theorem fillsT'_apply (a : Sorted F) (p : Fin 5120) (q : Fin 8) (L : List (Fin 10)) : ∀ Y : Mat F 8 5120,
    fillsT' a L Y (ix2 q p) = if blkOf p ∈ L ∧ q.val < 5 then tblRow a (blkOf p) q.val (ix2 0 (locOf p)) else Y (ix2 q p) := by
  induction L with
  | nil => intro X; simp [fillsT']
  | cons j L ih =>
    intro X
    show fillsT' a L (fillT' a j X) (ix2 q p) = _
    rw [ih, fillT'_apply]
    by_cases h6 : q.val < 5
    · by_cases hL : blkOf p ∈ L
      · simp [hL, h6]
      by_cases hj : blkOf p = j
      · rw [if_neg (by simp [hL]), dif_pos ⟨(mem_blk p j).mpr hj, h6⟩, if_pos ⟨by simp [hj], h6⟩]
        subst hj
        refine congrArg (tblRow a (blkOf p) q.val) (congrArg (ix2 0 ·) (Fin.ext ?_))
        show p.val - 512 * (p.val / 512) = p.val % 512
        omega
      · rw [if_neg (by simp [hL]), dif_neg (fun h => hj ((mem_blk p j).mp h.1)), if_neg (by simp [hL, hj])]
    · simp [h6]

/-! ## What the later parts read -/

theorem slice_apply {α : Type} {a b c d i j : ℕ} (X : (Shp a b).Idx → α) (h : (Shp a b).Slices ![i, j] (Shp c d)) (p : Fin c) (q : Fin d) :
    extractStridedSlice (Shp c d) ![i, j] X h (ix2 p q)
      = X (ix2 ⟨i + p.val, Nat.lt_of_lt_of_le (Nat.add_lt_add_left p.isLt _) (h.2 0)⟩ ⟨j + q.val, Nat.lt_of_lt_of_le (Nat.add_lt_add_left q.isLt _) (h.2 1)⟩) := by
  refine congrArg X (funext fun x => Fin.ext ?_)
  fin_cases x <;> rfl

/-- Two tables that agree on the first six columns, two transposed tables that agree on the first five rows. -/
def SameT {n : ℕ} (X X' : Mat F n 8) : Prop := ∀ (p : Fin n) (q : Fin 8), q.val < 6 → X (ix2 p q) = X' (ix2 p q)
def SameT' {n : ℕ} (Y Y' : Mat F 8 n) : Prop := ∀ (q : Fin 8) (p : Fin n), q.val < 5 → Y (ix2 q p) = Y' (ix2 q p)

theorem slice_congr {n k : ℕ} {X X' : Mat F n 8} (hX : SameT X X') (hk : k < 6) (h : (Shp n 8).Slices ![0, k] (Shp n 1)) :
    extractStridedSlice (Shp n 1) ![0, k] X h = extractStridedSlice (Shp n 1) ![0, k] X' h := by
  refine mat_ext fun p q => ?_
  rw [slice_apply, slice_apply]
  exact hX _ _ (by simp only; omega)

theorem slice_congr' {n k : ℕ} {Y Y' : Mat F 8 n} (hY : SameT' Y Y') (hk : k < 5) (h : (Shp 8 n).Slices ![k, 0] (Shp 1 n)) :
    extractStridedSlice (Shp 1 n) ![k, 0] Y h = extractStridedSlice (Shp 1 n) ![k, 0] Y' h := by
  refine mat_ext fun p q => ?_
  rw [slice_apply, slice_apply]
  exact hY _ _ (by simp only; omega)

theorem supOf_congr {row row' : Mat F 512 8} {col col' : Mat F 8 512} (hr : SameT row row') (hc : SameT' col col') :
    supOf row col = supOf row' col' := by
  unfold supOf
  rw [slice_congr hr (k := 0) (by decide), slice_congr hr (k := 1) (by decide), slice_congr hr (k := 2) (by decide), slice_congr hr (k := 3) (by decide),
    slice_congr hr (k := 4) (by decide), slice_congr' hc (k := 0) (by decide), slice_congr' hc (k := 1) (by decide), slice_congr' hc (k := 2) (by decide),
    slice_congr' hc (k := 3) (by decide), slice_congr' hc (k := 4) (by decide)]

theorem detsOf_congr {X X' : Mat F 5120 8} (hX : SameT X X') (K : Mat F 5120 1) : detsOf X K = detsOf X' K := by
  unfold detsOf
  rw [slice_congr hX (k := 0) (by decide), slice_congr hX (k := 1) (by decide), slice_congr hX (k := 2) (by decide), slice_congr hX (k := 3) (by decide),
    slice_congr hX (k := 5) (by decide)]

theorem rowBlk_congr {X X' : Mat F 5120 8} (hX : SameT X X') (j : Fin 10) : SameT (rowBlk X j) (rowBlk X' j) := by
  intro p q h
  unfold rowBlk
  rw [blk_apply, blk_apply]
  exact hX _ _ (by simpa using h)

theorem colBlk_congr {Y Y' : Mat F 8 5120} (hY : SameT' Y Y') (j : Fin 10) : SameT' (colBlk Y j) (colBlk Y' j) := by
  intro p q h
  unfold colBlk
  rw [blk_apply, blk_apply]
  exact hY _ _ (by simpa using h)

theorem scoreBlk_congr {X X' : Mat F 5120 8} (hX : SameT X X') (j : Fin 10) : scoreBlk X j = scoreBlk X' j := by
  refine mat_ext fun p q => ?_
  unfold scoreBlk
  rw [blk_apply, blk_apply]
  exact hX _ _ (by simp only; omega)

/-- The suppression of a block reads only the kept rows of the list's blocks. -/
theorem suppV_congr {Y Y' : Mat F 8 5120} {K K' : Mat F 5120 1} {row row' : Mat F 512 8} (hY : SameT' Y Y') (hr : SameT row row') (L : List (Fin 10)) :
    (∀ i ∈ L, keepBlk K i = keepBlk K' i) → ∀ s : Mat F 512 1, suppV Y K row L s = suppV Y' K' row' L s := by
  induction L with
  | nil => intro _ s; rfl
  | cons i L ih =>
    intro h s
    show suppV Y K row L (addf s (mulCol (supOf row (colBlk Y i)) (keepBlk K i))) = suppV Y' K' row' L (addf s (mulCol (supOf row' (colBlk Y' i)) (keepBlk K' i)))
    rw [ih (fun k hk => h k (List.mem_cons_of_mem _ hk)), h i List.mem_cons_self, supOf_congr hr (colBlk_congr hY i)]

/-- The blocks before block `j`. -/
theorem mem_take_finRange {n : ℕ} (j : ℕ) (i : Fin n) : i ∈ (List.finRange n).take j ↔ i.val < j := by
  rw [List.mem_take_iff_getElem]
  constructor
  · rintro ⟨k, hk, e⟩
    simp at e hk
    rw [← e]; simp; omega
  · intro h
    exact ⟨i.val, by simp; omega, by simp⟩

/-- Block `j` reads only the kept rows of the blocks before it. -/
theorem keptV_congr {X X' : Mat F 5120 8} {Y Y' : Mat F 8 5120} {K K' : Mat F 5120 1} (hX : SameT X X') (hY : SameT' Y Y') (j : Fin 10)
    (hK : ∀ i : Fin 10, i.val < j.val → keepBlk K i = keepBlk K' i) : keptV X Y j K = keptV X' Y' j K' := by
  have e : initV X Y j K = initV X' Y' j K' := by
    unfold initV
    rw [scoreBlk_congr hX, suppV_congr hY (rowBlk_congr hX j) _ (fun i hi => hK i ((mem_take_finRange _ _).mp hi))]
  unfold keptV
  rw [e, supOf_congr (rowBlk_congr hX j) (colBlk_congr hY j)]

/-- A block of the column after another block is put, and after the same one. -/
theorem keepBlk_keepV (X : Mat F 5120 8) (Y : Mat F 8 5120) (j i : Fin 10) (K : Mat F 5120 1) :
    keepBlk (keepV X Y j K) i = if i = j then keptV X Y j K else keepBlk K i := by
  refine mat_ext fun p q => ?_
  unfold keepBlk keepV
  rw [blk_apply, ins_apply, same_eq]
  by_cases hij : i = j
  · subst hij
    rw [if_pos rfl, dif_pos (by simp only; omega)]
    refine congrArg (keptV X Y i K) (congrArg₂ ix2 (Fin.ext ?_) (Fin.ext ?_)) <;> simp only <;> omega
  · have : i.val ≠ j.val := fun h => hij (Fin.ext h)
    rw [if_neg hij, dif_neg (by simp only; omega), blk_apply]

theorem take_succ_finRange {n : ℕ} (j : Fin n) : (List.finRange n).take (j.val + 1) = (List.finRange n).take j.val ++ [j] := by
  rw [List.take_succ]
  simp

theorem keepsV_succ (X : Mat F 5120 8) (Y : Mat F 8 5120) (j : Fin 10) (K : Mat F 5120 1) :
    keepsV X Y ((List.finRange 10).take (j.val + 1)) K = keepV X Y j (keepsV X Y ((List.finRange 10).take j.val) K) := by
  unfold keepsV
  rw [take_succ_finRange, List.foldl_append]
  rfl

/-- After the first `n` blocks the earlier blocks of the column do not depend on what was there. -/
theorem keepsV_congr {X X' : Mat F 5120 8} {Y Y' : Mat F 8 5120} (hX : SameT X X') (hY : SameT' Y Y') (K K' : Mat F 5120 1) : ∀ n ≤ 10, ∀ i : Fin 10, i.val < n →
    keepBlk (keepsV X Y ((List.finRange 10).take n) K) i = keepBlk (keepsV X' Y' ((List.finRange 10).take n) K') i := by
  intro n
  induction n with
  | zero => intro _ i h; exact absurd h (Nat.not_lt_zero _)
  | succ n ih =>
    intro hn i hi
    have := keepsV_succ X Y ⟨n, hn⟩ K
    have := keepsV_succ X' Y' ⟨n, hn⟩ K'
    simp only at *
    simp only [*, keepBlk_keepV]
    by_cases h : i = ⟨n, hn⟩
    · rw [if_pos h, if_pos h]
      exact keptV_congr hX hY _ (fun k hk => ih (by omega) k hk)
    · rw [if_neg h, if_neg h]
      exact ih (by omega) i (by have : i.val ≠ n := fun e => h (Fin.ext e); omega)

/-- A column is its ten blocks. -/
theorem ext_keepBlk {K K' : Mat F 5120 1} (h : ∀ i : Fin 10, keepBlk K i = keepBlk K' i) : K = K' := by
  refine mat_ext fun p q => ?_
  have e := congrFun (h (blkOf p)) (ix2 (locOf p) 0)
  unfold keepBlk at e
  rw [blk_apply, blk_apply] at e
  have key : ∀ h0 h1, ix2 (n0 := 5120) (n1 := 1) ⟨512 * (blkOf p).val + (locOf p).val, h0⟩ ⟨0 + (0 : Fin 1).val, h1⟩ = ix2 p q := fun _ _ =>
    congrArg₂ ix2 (Fin.ext (by show 512 * (p.val / 512) + p.val % 512 = p.val; omega)) (Subsingleton.elim _ _)
  rw [key] at e
  exact e

/-! ## The results -/

/-- Zeros, for what the buffers held. -/
def zeros (a b : ℕ) : Mat F a b := broadcast (Shp a b) (Scalar.ofBits .f32 0x00000000#32)

def tblOf (a : Sorted F) : Mat F 5120 8 := fillsT a (List.finRange 10) (zeros 5120 8)
def tblOf' (a : Sorted F) : Mat F 8 5120 := fillsT' a (List.finRange 10) (zeros 8 5120)
def keepOf (a : Sorted F) : Mat F 5120 1 := keepsV (tblOf a) (tblOf' a) (List.finRange 10) (zeros 5120 1)
/-- The two results from the sorted arrays. -/
def outD (a : Sorted F) : Mat F 5120 8 := detsOf (tblOf a) (keepOf a)
def outT (a : Sorted F) : Mat F 16 8 := topOf (keepOf a) (outD a)

theorem sameT_fills (a : Sorted F) (X X' : Mat F 5120 8) : SameT (fillsT a (List.finRange 10) X) (fillsT a (List.finRange 10) X') := by
  intro p q h
  rw [fillsT_apply, fillsT_apply, if_pos ⟨List.mem_finRange _, h⟩, if_pos ⟨List.mem_finRange _, h⟩]

theorem sameT_fills' (a : Sorted F) (Y Y' : Mat F 8 5120) : SameT' (fillsT' a (List.finRange 10) Y) (fillsT' a (List.finRange 10) Y') := by
  intro q p h
  rw [fillsT'_apply, fillsT'_apply, if_pos ⟨List.mem_finRange _, h⟩, if_pos ⟨List.mem_finRange _, h⟩]

/-- The kept rows do not depend on what the buffers held. -/
theorem keeps_eq (a : Sorted F) (X : Mat F 5120 8) (Y : Mat F 8 5120) (K : Mat F 5120 1) :
    keepsV (fillsT a (List.finRange 10) X) (fillsT' a (List.finRange 10) Y) (List.finRange 10) K = keepOf a :=
  ext_keepBlk fun i => keepsV_congr (sameT_fills a X _) (sameT_fills' a Y _) K _ 10 (le_refl _) i i.isLt

/-- Nor does the first result. -/
theorem dets_eq (a : Sorted F) (X : Mat F 5120 8) : detsOf (fillsT a (List.finRange 10) X) (keepOf a) = outD a :=
  detsOf_congr (sameT_fills a X _) _

end Cert.Nms

end
-- ==== Proof.BodyI.lean ====
/-
  The printed body and the printed loops are the ones written with the stage or the block as a parameter.
-/
module

public import proofs.«01_k».proof.KernelIdeal
public import proofs.«01_k».proof.Proof.Struct
public import Idealize.ShloMosaic.Lib.Tactic

@[expose] public section

noncomputable section

namespace Cert.KernelIdeal.Own

open Idealize.ShloMosaic Idealize.SL.Sem Cert.Nms

variable {F : FTy → Type} [FloatOps F] [Facts]

/-- The call of block `j`'s loop. -/
def wc : WhileCall nD τ sig F (Λ₀ F) := fun j st init prev cur t =>
  match j with
  | 0 => Prog.lift (.call (1 : (Λ₀ F).Label) ⟨st, init, prev, cur, t⟩)
  | 1 => Prog.lift (.call (2 : (Λ₀ F).Label) ⟨st, init, prev, cur, t⟩)
  | 2 => Prog.lift (.call (3 : (Λ₀ F).Label) ⟨st, init, prev, cur, t⟩)
  | 3 => Prog.lift (.call (4 : (Λ₀ F).Label) ⟨st, init, prev, cur, t⟩)
  | 4 => Prog.lift (.call (5 : (Λ₀ F).Label) ⟨st, init, prev, cur, t⟩)
  | 5 => Prog.lift (.call (6 : (Λ₀ F).Label) ⟨st, init, prev, cur, t⟩)
  | 6 => Prog.lift (.call (7 : (Λ₀ F).Label) ⟨st, init, prev, cur, t⟩)
  | 7 => Prog.lift (.call (8 : (Λ₀ F).Label) ⟨st, init, prev, cur, t⟩)
  | 8 => Prog.lift (.call (9 : (Λ₀ F).Label) ⟨st, init, prev, cur, t⟩)
  | 9 => Prog.lift (.call (10 : (Λ₀ F).Label) ⟨st, init, prev, cur, t⟩)

/-! What each label stands for is the loop of its block. -/
section
variable (st : Mat F 512 512) (init prev cur : Mat F 512 1) (t : BitVec 32)
theorem loop_eq_0 : defs₀ (F := F) .tc (1 : (Λ₀ F).Label) ⟨st, init, prev, cur, t⟩ = loopK (wc 0) st init prev cur t := by sl_kernel_rfl
theorem loop_eq_1 : defs₀ (F := F) .tc (2 : (Λ₀ F).Label) ⟨st, init, prev, cur, t⟩ = loopK (wc 1) st init prev cur t := by sl_kernel_rfl
theorem loop_eq_2 : defs₀ (F := F) .tc (3 : (Λ₀ F).Label) ⟨st, init, prev, cur, t⟩ = loopK (wc 2) st init prev cur t := by sl_kernel_rfl
theorem loop_eq_3 : defs₀ (F := F) .tc (4 : (Λ₀ F).Label) ⟨st, init, prev, cur, t⟩ = loopK (wc 3) st init prev cur t := by sl_kernel_rfl
theorem loop_eq_4 : defs₀ (F := F) .tc (5 : (Λ₀ F).Label) ⟨st, init, prev, cur, t⟩ = loopK (wc 4) st init prev cur t := by sl_kernel_rfl
theorem loop_eq_5 : defs₀ (F := F) .tc (6 : (Λ₀ F).Label) ⟨st, init, prev, cur, t⟩ = loopK (wc 5) st init prev cur t := by sl_kernel_rfl
theorem loop_eq_6 : defs₀ (F := F) .tc (7 : (Λ₀ F).Label) ⟨st, init, prev, cur, t⟩ = loopK (wc 6) st init prev cur t := by sl_kernel_rfl
theorem loop_eq_7 : defs₀ (F := F) .tc (8 : (Λ₀ F).Label) ⟨st, init, prev, cur, t⟩ = loopK (wc 7) st init prev cur t := by sl_kernel_rfl
theorem loop_eq_8 : defs₀ (F := F) .tc (9 : (Λ₀ F).Label) ⟨st, init, prev, cur, t⟩ = loopK (wc 8) st init prev cur t := by sl_kernel_rfl
theorem loop_eq_9 : defs₀ (F := F) .tc (10 : (Λ₀ F).Label) ⟨st, init, prev, cur, t⟩ = loopK (wc 9) st init prev cur t := by sl_kernel_rfl
end

/-- The printed body is the body with loops. -/
theorem body_eq (arg0 : Memref sig .tc .vmem S64x128 .f32) (h0 : arg0.IsWhole) (arg1 : Memref sig .tc .vmem S64x128 .f32) (h1 : arg1.IsWhole)
    (arg2 : Memref sig .tc .vmem S64x128 .f32) (h2 : arg2.IsWhole) (arg3 : Memref sig .tc .vmem S64x128 .f32) (h3 : arg3.IsWhole)
    (arg4 : Memref sig .tc .vmem S64x128 .f32) (h4 : arg4.IsWhole) (arg5 : Memref sig .tc .vmem S5120x8 .f32) (h5 : arg5.IsWhole)
    (arg6 : Memref sig .tc .vmem S16x8 .f32) (h6 : arg6.IsWhole) (arg7 : Memref sig .tc .vmem S5120x8 .f32) (h7 : arg7.IsWhole)
    (arg8 : Memref sig .tc .vmem S8x5120 .f32) (h8 : arg8.IsWhole) (arg9 : Memref sig .tc .vmem S5120x1 .f32) (h9 : arg9.IsWhole) :
    cc0__nms_body (F := F) arg0 h0 arg1 h1 arg2 h2 arg3 h3 arg4 h4 arg5 h5 arg6 h6 arg7 h7 arg8 h8 arg9 h9
      = bodyK wc arg0 arg1 arg2 arg3 arg4 arg5 arg6 arg7 arg8 arg9 := by sl_kernel_rfl

end Cert.KernelIdeal.Own

end
-- ==== Proof.RunI.lean ====
/-
  The run of the whole program: the five inputs are what the lines before the kernel make of the two arguments, the kernel
  leaves its two results as `outD` and `outT` of the sorted arrays, and the last two lines cut the results out of them.
-/
module

public import proofs.«01_k».proof.Proof.BodyI
public import proofs.«01_k».proof.Proof.Indep
public import proofs.«01_k».proof.Proof.Gen.KernelIdeal.Launch
public import proofs.«01_k».proof.Proof.Gen.KernelIdeal.Points
import Idealize.ShloMosaic.Lib.Pipeline.ValueKit
public import Idealize.ShloMosaic.Lib.Pipeline.FrameSuffix

@[expose] public section

noncomputable section

namespace Cert.KernelIdeal.Own

open Cert.KernelIdeal.Gen Cert.Nms
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- The resources of the launch. -/
abbrev UP : Type := Idealize.ShloMosaic.UR sig nD τ

/-- Every loop runs as the loop written out, by its label's definition. -/
theorem runsLoop (j : Fin 10) : RunsLoop (F := F) defs₀ UP (wc j) := by
  intro c bd v hv st init prev cur t r h Q
  match j with
  | 0 => exact runs_call (F := F) defs₀ (l := (1 : (Λ₀ F).Label)) (a := ⟨st, init, prev, cur, t⟩) hv r (loop_eq_0 st init prev cur t) h Q
  | 1 => exact runs_call (F := F) defs₀ (l := (2 : (Λ₀ F).Label)) (a := ⟨st, init, prev, cur, t⟩) hv r (loop_eq_1 st init prev cur t) h Q
  | 2 => exact runs_call (F := F) defs₀ (l := (3 : (Λ₀ F).Label)) (a := ⟨st, init, prev, cur, t⟩) hv r (loop_eq_2 st init prev cur t) h Q
  | 3 => exact runs_call (F := F) defs₀ (l := (4 : (Λ₀ F).Label)) (a := ⟨st, init, prev, cur, t⟩) hv r (loop_eq_3 st init prev cur t) h Q
  | 4 => exact runs_call (F := F) defs₀ (l := (5 : (Λ₀ F).Label)) (a := ⟨st, init, prev, cur, t⟩) hv r (loop_eq_4 st init prev cur t) h Q
  | 5 => exact runs_call (F := F) defs₀ (l := (6 : (Λ₀ F).Label)) (a := ⟨st, init, prev, cur, t⟩) hv r (loop_eq_5 st init prev cur t) h Q
  | 6 => exact runs_call (F := F) defs₀ (l := (7 : (Λ₀ F).Label)) (a := ⟨st, init, prev, cur, t⟩) hv r (loop_eq_6 st init prev cur t) h Q
  | 7 => exact runs_call (F := F) defs₀ (l := (8 : (Λ₀ F).Label)) (a := ⟨st, init, prev, cur, t⟩) hv r (loop_eq_7 st init prev cur t) h Q
  | 8 => exact runs_call (F := F) defs₀ (l := (9 : (Λ₀ F).Label)) (a := ⟨st, init, prev, cur, t⟩) hv r (loop_eq_8 st init prev cur t) h Q
  | 9 => exact runs_call (F := F) defs₀ (l := (10 : (Λ₀ F).Label)) (a := ⟨st, init, prev, cur, t⟩) hv r (loop_eq_9 st init prev cur t) h Q

variable (m : (ℓ : Loc nD τ sig) → Buf (Elt F) ℓ)

/-- The buffers of core `c` when the kernel starts. -/
abbrev V₀ (c : Dev nD) : Valuation τ sig (Elt F) := StableHlo.after [hostOps0].flatten (fun b => m (c, b))

/-- The kernel's five inputs. -/
def inA (c : Dev nD) (w : Fin 5) : Mat F 64 128 := match w with
  | 0 => (win0_0.blk t0_0).view.read (Elt F) (V₀ m c (Proc.devRef .tc main_v2))
  | 1 => (win0_1.blk t0_0).view.read (Elt F) (V₀ m c (Proc.devRef .tc main_v7))
  | 2 => (win0_2.blk t0_0).view.read (Elt F) (V₀ m c (Proc.devRef .tc main_v12))
  | 3 => (win0_3.blk t0_0).view.read (Elt F) (V₀ m c (Proc.devRef .tc main_v17))
  | 4 => (win0_4.blk t0_0).view.read (Elt F) (V₀ m c (Proc.devRef .tc main_v22))

/-- The sorted arrays. -/
def sortedA (c : Dev nD) : Sorted F := sortedOf (inA m c 0) (inA m c 1) (inA m c 2) (inA m c 3) (inA m c 4)

/-- The data of the one pipeline: the inputs stay, the results are `outD` and `outT`. -/
def dats (_ : Fin 1) (c : Dev nD) : Dat τ (Elt F) Unit ℕ UP ℕ (cfg0 (F := F)) c where
  A w := V₀ m c (Proc.devRef .tc (Pipeline.arrRef spec0 w))
  after w _ := match w with
    | ⟨0, _⟩ => inA m c 0
    | ⟨1, _⟩ => inA m c 1
    | ⟨2, _⟩ => inA m c 2
    | ⟨3, _⟩ => inA m c 3
    | ⟨4, _⟩ => inA m c 4
    | ⟨5, _⟩ => outD (sortedA m c)
    | ⟨6, _⟩ => outT (sortedA m c)
  Φ _ := Pipeline.ΦA spec0 c
  q _ := fullShare
  owed _ := 0

/-! The kernel finds its inputs in the five staging buffers. -/

theorem before_0 (c : Dev nD) (d) : (dats m 0 c).before 0 t0_0 d = inA m c 0 := by
  unfold Dat.before; rw [if_pos (fetch0_0 _)]; rfl
theorem before_1 (c : Dev nD) (d) : (dats m 0 c).before 1 t0_0 d = inA m c 1 := by
  unfold Dat.before; rw [if_pos (fetch0_1 _)]; rfl
theorem before_2 (c : Dev nD) (d) : (dats m 0 c).before 2 t0_0 d = inA m c 2 := by
  unfold Dat.before; rw [if_pos (fetch0_2 _)]; rfl
theorem before_3 (c : Dev nD) (d) : (dats m 0 c).before 3 t0_0 d = inA m c 3 := by
  unfold Dat.before; rw [if_pos (fetch0_3 _)]; rfl
theorem before_4 (c : Dev nD) (d) : (dats m 0 c).before 4 t0_0 d = inA m c 4 := by
  unfold Dat.before; rw [if_pos (fetch0_4 _)]; rfl

/-- What the body is called with, -/
def bodyPre (c : Dev nD) (s : (w : Fin 7) → Fin (win0 w).nbuf) : sProp (Cert.Nms.Mod nD τ sig F UP) :=
  iprop(Pipeline.ΦA spec0 c ∗ (dats m 0 c).owesAt () t0_0.castSucc ∗ (∃ d, has c (win0_0.stage (s 0)) ((dats m 0 c).before 0 t0_0 d))
    ∗ (∃ d, has c (win0_1.stage (s 1)) ((dats m 0 c).before 1 t0_0 d)) ∗ (∃ d, has c (win0_2.stage (s 2)) ((dats m 0 c).before 2 t0_0 d))
    ∗ (∃ d, has c (win0_3.stage (s 3)) ((dats m 0 c).before 3 t0_0 d)) ∗ (∃ d, has c (win0_4.stage (s 4)) ((dats m 0 c).before 4 t0_0 d))
    ∗ (∃ d, has c (win0_5.stage (s 5)) ((dats m 0 c).before 5 t0_0 d)) ∗ (∃ d, has c (win0_6.stage (s 6)) ((dats m 0 c).before 6 t0_0 d)))

/-- and what it leaves. -/
def bodyPost (c : Dev nD) (s : (w : Fin 7) → Fin (win0 w).nbuf) : sProp (Cert.Nms.Mod nD τ sig F UP) :=
  iprop(Pipeline.ΦA spec0 c ∗ (dats m 0 c).owesAt () t0_0.succ ∗ has c (win0_0.stage (s 0)) (inA m c 0) ∗ has c (win0_1.stage (s 1)) (inA m c 1)
    ∗ has c (win0_2.stage (s 2)) (inA m c 2) ∗ has c (win0_3.stage (s 3)) (inA m c 3) ∗ has c (win0_4.stage (s 4)) (inA m c 4)
    ∗ has c (win0_5.stage (s 5)) (outD (sortedA m c)) ∗ has c (win0_6.stage (s 6)) (outT (sortedA m c)))

theorem body_runs (c : Dev nD) (s : (w : Fin 7) → Fin (win0 w).nbuf) : bodyPre m c s ⊢ W (defs₀ (F := F)) c none
    (bodyK wc (win0_0.stage (s 0)) (win0_1.stage (s 1)) (win0_2.stage (s 2)) (win0_3.stage (s 3)) (win0_4.stage (s 4)) (win0_5.stage (s 5)) (win0_6.stage (s 6)) (Memref.whole cc0_scratch0)
      (Memref.whole cc0_scratch1) (Memref.whole cc0_scratch2)) (fun _ => bodyPost m c s) := by
  unfold bodyPre bodyPost Pipeline.ΦA
  rw [scopedRest0_eq]
  iintro ⟨⟨⟨⟨%X, HX⟩, ⟨%Y, HY⟩, ⟨%K, HK⟩⟩, Hr⟩, Ho, ⟨%d0, H0⟩, ⟨%d1, H1⟩, ⟨%d2, H2⟩, ⟨%d3, H3⟩, ⟨%d4, H4⟩, ⟨%d5, H5⟩, ⟨%d6, H6⟩⟩
  rw [before_0, before_1, before_2, before_3, before_4]
  iapply (wp_bodyK (defs₀ (F := F)) runsLoop (X := X) (Y := Y) (K := K) (fillsT (sortedA m c) (List.finRange 10) X) (keepOf (sortedA m c)) rfl
    (keeps_eq (sortedA m c) X Y K).symm) $$ [H0 H1 H2 H3 H4 H5 H6 HX HY HK]
  · isplitl [H0]; · iexact H0
    isplitl [H1]; · iexact H1
    isplitl [H2]; · iexact H2
    isplitl [H3]; · iexact H3
    isplitl [H4]; · iexact H4
    isplitl [H5]; · iexact H5
    isplitl [H6]; · iexact H6
    unfold has
    simp only [owns_whole_eq]
    isplitl [HX]
    · iexists X; isplitr; · (ipureintro; rfl)
      iexact HX
    isplitl [HY]
    · iexists Y; isplitr; · (ipureintro; rfl)
      iexact HY
    iexists K; isplitr; · (ipureintro; rfl)
    iexact HK
  rw [dets_eq]
  unfold has
  simp only [owns_whole_eq]
  iintro H0 H1 H2 H3 H4 H5 H6 ⟨%X', %X'', %hX, HX⟩ ⟨%Y', %Y'', %hY, HY⟩ ⟨%K', %K'', %hK, HK⟩
  isplitl [HX HY HK Hr]
  · isplitr [Hr]; swap
    · iexact Hr
    isplitl [HX]; · iexists _; iexact HX
    isplitl [HY]; · iexists _; iexact HY
    iexists _; iexact HK
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- What the kernel's label stands for. -/
theorem row_eq (t : Fin grid0.N) (s : (w : Fin 7) → Fin (win0 w).nbuf) : defs₀ (F := F) .tc (0 : (Λ₀ F).Label) (t, s)
    = cc0__nms_body (win0_0.stage (s 0)) (hstage0_0 0) (win0_1.stage (s 1)) (hstage0_1 0) (win0_2.stage (s 2)) (hstage0_2 0)
      (win0_3.stage (s 3)) (hstage0_3 0) (win0_4.stage (s 4)) (hstage0_4 0) (win0_5.stage (s 5)) (hstage0_5 0) (win0_6.stage (s 6)) (hstage0_6 0)
      (Memref.whole cc0_scratch0) (Memref.isWhole_whole _) (Memref.whole cc0_scratch1) (Memref.isWhole_whole _)
      (Memref.whole cc0_scratch2) (Memref.isWhole_whole _) := by sl_kernel_rfl

theorem row_at : defs₀ (F := F) .tc (cfg0 (F := F)).body ((cfg0 (F := F)).bodyArgs t0_0 ((cfg0 (F := F)).slots t0_0))
    = defs₀ (F := F) .tc (0 : (Λ₀ F).Label) (t0_0, (cfg0 (F := F)).slots t0_0) := rfl

/-- A run of what the label stands for is the run the launch asks for. -/
theorem obligation_of (c : Dev nD) (p : Prog (TpuEff nD τ sig (Elt F) (Λ₀ F) .tc) PUnit) (s : (w : Fin 7) → Fin (win0 w).nbuf)
    (h : bodyPre m c s ⊢ W (defs₀ (F := F)) c none p (fun _ => bodyPost m c s))
    (e : p = defs₀ (F := F) .tc (0 : (Λ₀ F).Label) (t0_0, (cfg0 (F := F)).slots t0_0)) (hs : s = (cfg0 (F := F)).slots t0_0) :
    BodyObligation (dats m 0 c) (defs₀ (F := F)) Variants.nat () Set.univ := fun t => by
  obtain rfl := fin_N0 t
  rw [bigSep_W0, bigSep_W0, row_at, ← e]
  subst hs
  exact h

theorem body_obligation (c : Dev nD) : BodyObligation (dats m 0 c) (defs₀ (F := F)) Variants.nat () Set.univ := by
  generalize hs : (cfg0 (F := F)).slots t0_0 = s
  exact obligation_of m c _ s (body_runs m c s) (by rw [hs]; exact ((row_eq t0_0 s).trans (body_eq ..)).symm) hs.symm

/-- The lines after the kernel, -/
abbrev tail : List (List (HloOp τ sig (Elt F))) := [hostOps1]

/-- and what the buffers hold at the end. -/
abbrev Vend (c : Dev nD) (b : Ref sig .tc) := Pipeline.afterTail₀ cfgs (dats m) 0 (V₀ m) tail c b

theorem run_main (g : Dev nD → PrngReg) :
    θ_run (defs (F := F)) (onTc (τ := τ) (main (F := F))) ⟨m, fun _ => 0, g⟩ (fun r =>
      Pipeline.FramePost cfgs (dats m) 0 (Vend m) r ∧ r.2.sem = fun _ => 0) := by
  refine Pipeline.θ_run_frame_around cfgs (dats m) 0 launch0 defs₀ Variants.nat m g main (fun c => (body_obligation m c).loose)
    (fun c w => by unfold Dat.share; split <;> rfl) (fun _ _ => rfl) (V₀ m) tail ?_ ?_ ?_
    (Pipeline.hmain_around cfgs 0 defs₀ Variants.nat m main [hostOps0] [hostOps1] hostOps0_sub ?_ main_chain) (fun _ _ => rfl) (fun _ _ => rfl) _ (fun _ h => h)
  · intro ops ho op h
    obtain rfl := List.mem_singleton.mp ho
    rw [Pipeline.tailRefs_none _ (by decide : ∀ w : Fin 7, (Pipeline.arrRef spec0 w).isScoped = false)]
    exact Pipeline.sub_ucRefs op (List.forall_iff_forall_mem.mp hostOps1_sub op h)
  · intro ops ho op h
    obtain rfl := List.mem_singleton.mp ho
    rcases List.mem_cons.mp h with rfl | h
    · rfl
    obtain rfl := List.mem_singleton.mp h
    rfl
  · intro ops ho op h
    obtain rfl := List.mem_singleton.mp ho
    rcases List.mem_cons.mp h with rfl | h
    · exact (by decide : ∀ w : Fin 7, Proc.devRef (τ := τ) .tc (Pipeline.arrRef spec0 w) ∉ ({Proc.devRef .tc main_v24} : Finset (DevRef τ sig)))
    obtain rfl := List.mem_singleton.mp h
    exact (by decide : ∀ w : Fin 7, Proc.devRef (τ := τ) .tc (Pipeline.arrRef spec0 w) ∉ ({Proc.devRef .tc main_v25} : Finset (DevRef τ sig)))
  · simp only [List.Forall]
    repeat' constructor

/-- Result 0 after the kernel: its one block is the whole array. -/
theorem arr_dets (c : Dev nD) : (dats m 0 c).arrAt 5 (cfg0 (F := F)).N = outD (sortedA m c) :=
  (dats m 0 c).arrAt_eq_of_after_last (5 : Fin 7) t0_0 (by decide +kernel : win0_5.WholeAt t0_0) (outD (sortedA m c))
    (fun _ => rfl)

/-- Result 1 after the kernel: its one block is the whole array. -/
theorem arr_top (c : Dev nD) : (dats m 0 c).arrAt 6 (cfg0 (F := F)).N = outT (sortedA m c) :=
  (dats m 0 c).arrAt_eq_of_after_last (6 : Fin 7) t0_0 (by decide +kernel : win0_6.WholeAt t0_0) (outT (sortedA m c))
    (fun _ => rfl)

theorem end_arg0 (c : Dev nD) : Vend m c main_arg0 = m ((c.tc : Thread nD τ).loc main_arg0) := by
  unfold Vend Pipeline.afterTail₀
  simp only [tail, hostOps1, List.flatten_cons, List.flatten_nil, List.append_nil]
  after_results
  rw [Pipeline.withArrays_of_ne _ _ _ _ main_arg0 (by decide : ∀ w : Fin 7, Pipeline.arrRef spec0 w ≠ main_arg0)]
  unfold V₀
  simp only [hostOps0, List.flatten_cons, List.flatten_nil, List.append_nil]
  after_results

theorem end_arg1 (c : Dev nD) : Vend m c main_arg1 = m ((c.tc : Thread nD τ).loc main_arg1) := by
  unfold Vend Pipeline.afterTail₀
  simp only [tail, hostOps1, List.flatten_cons, List.flatten_nil, List.append_nil]
  after_results
  rw [Pipeline.withArrays_of_ne _ _ _ _ main_arg1 (by decide : ∀ w : Fin 7, Pipeline.arrRef spec0 w ≠ main_arg1)]
  unfold V₀
  simp only [hostOps0, List.flatten_cons, List.flatten_nil, List.append_nil]
  after_results

theorem end_v24 (c : Dev nD) : Vend m c main_v24 = extractStridedSlice S5000x5 ![0, 0] (outD (sortedA m c)) slices_S5120x8_S5000x5_0_0 := by
  unfold Vend Pipeline.afterTail₀
  simp only [tail, hostOps1, List.flatten_cons, List.flatten_nil, List.append_nil]
  after_results
  erw [Pipeline.withArrays_arr spec0 winFacts0.arr_inj c (V₀ m c) (fun w => (dats m 0 c).arrAt w (cfg0 (F := F)).N) 5]
  rw [arr_dets]

theorem end_v25 (c : Dev nD) : Vend m c main_v25 = extractStridedSlice S15x5 ![0, 0] (outT (sortedA m c)) slices_S16x8_S15x5_0_0 := by
  unfold Vend Pipeline.afterTail₀
  simp only [tail, hostOps1, List.flatten_cons, List.flatten_nil, List.append_nil]
  after_results
  erw [Pipeline.withArrays_arr spec0 winFacts0.arr_inj c (V₀ m c) (fun w => (dats m 0 c).arrAt w (cfg0 (F := F)).N) 6]
  rw [arr_top]

/-- The run: the two results are cut out of `outD` and `outT`, the arguments are as they were, no semaphore is left raised. -/
theorem run_values (g : Dev nD → PrngReg) :
    θ_run (defs (F := F)) (onTc (τ := τ) (main (F := F))) ⟨m, fun _ => 0, g⟩ (fun r => (∀ c : Dev nD,
      r.2.mem ((c.tc : Thread nD τ).loc main_v24) = extractStridedSlice S5000x5 ![0, 0] (outD (sortedA m c)) slices_S5120x8_S5000x5_0_0
      ∧ r.2.mem ((c.tc : Thread nD τ).loc main_v25) = extractStridedSlice S15x5 ![0, 0] (outT (sortedA m c)) slices_S16x8_S15x5_0_0
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ⟨?_, ?_, ?_, ?_⟩, h.2⟩) (run_main m g)
  · exact ((h.1 c).2 main_v24 (Pipeline.mem_restRefs_of _ rfl (by decide : ∀ w : Fin 7, (spec0 w).arr.view.ref ≠ main_v24))).trans (end_v24 m c)
  · exact ((h.1 c).2 main_v25 (Pipeline.mem_restRefs_of _ rfl (by decide : ∀ w : Fin 7, (spec0 w).arr.view.ref ≠ main_v25))).trans (end_v25 m c)
  · exact ((h.1 c).2 main_arg0 (Pipeline.mem_restRefs_of _ rfl (by decide : ∀ w : Fin 7, (spec0 w).arr.view.ref ≠ main_arg0))).trans (end_arg0 m c)
  · exact ((h.1 c).2 main_arg1 (Pipeline.mem_restRefs_of _ rfl (by decide : ∀ w : Fin 7, (spec0 w).arr.view.ref ≠ main_arg1))).trans (end_arg1 m c)

end Cert.KernelIdeal.Own

end
-- ==== Proof.RefRun.lean ====
/-
  The run of the reference: it ends, its arguments are as they were, and its two results are what the lines after the loop
  make of the loop's last contents.
-/
module

public import proofs.«01_k».proof.Proof.Gen.ReferenceIdeal.Run
import Idealize.ShloMosaic.Lib.Quiescent

@[expose] public section

noncomputable section

namespace Cert.ReferenceIdeal.Own

open Idealize.SL Idealize.SL.Sem
open Idealize.ShloMosaic Idealize.ShloMosaic.StableHlo
open Cert.ReferenceIdeal Cert.ReferenceIdeal.Gen Cert.ReferenceIdeal.Value
open TcCoe

variable {F : FTy → Type} [FloatOps F] (m : (ℓ : Loc nD τ sig) → Buf (Elt F) ℓ)

/-- No line after the loop writes `r`. -/
theorem post_keeps (r : Ref sig .tc) (h : ∀ op ∈ (hostOps0_5 ++ hostOps0_6 ++ hostOps0_7 : List (HloOp τ sig (Elt F))), Proc.devRef .tc r ∉ op.writes)
    (V : Valuation τ sig (Elt F)) : afterL postI V (Proc.devRef .tc r) = V (Proc.devRef .tc r) := by
  rw [show afterL postI V = after (hostOps0_5 ++ hostOps0_6 ++ hostOps0_7) V by simp only [afterL_cons, afterL_nil, after_append]]
  exact after_of_forall_not_mem _ _ h

/-- A buffer no trip writes is at the loop's end what it was at its entry. -/
theorem loop_keeps (r : Ref sig .tc) (hc : r ∉ condOps_W) (hb : r ∉ while0Ops0_W) (c : Dev nD) : ∀ k : ℕ,
    atK m k c (Proc.devRef .tc r) = entryContents preI m c (Proc.devRef .tc r)
  | 0 => rfl
  | k + 1 => by
    rw [show atK m (k + 1) c = after while0Ops0 (after condOps (atK m k c)) from rfl,
      after_of_writes_sub while0Ops0 _ while0Ops0_writes hb, after_of_writes_sub condOps _ condOps_writes hc,
      loop_keeps r hc hb c k]

/-- A buffer written in none of the lines before the loop is what it was at the launch. -/
theorem entry_keeps (r : Ref sig .tc) (h0 : r ∉ hostOps0_W) (h1 : r ∉ hostOps0_1_W) (h2 : r ∉ hostOps0_2_W) (h3 : r ∉ hostOps0_3_W)
    (h4 : r ∉ hostOps0_4_W) (c : Dev nD) : entryContents preI m c (Proc.devRef .tc r) = m ((c.tc : Thread nD τ).loc r) := by
  rw [show entryContents preI m c = after hostOps0_4 (after hostOps0_3 (after hostOps0_2 (after hostOps0_1 (after hostOps0 (launchContents m c))))) from rfl,
    after_of_writes_sub _ _ hostOps0_4_writes h4, after_of_writes_sub _ _ hostOps0_3_writes h3, after_of_writes_sub _ _ hostOps0_2_writes h2,
    after_of_writes_sub _ _ hostOps0_1_writes h1, after_of_writes_sub _ _ hostOps0_writes h0]

theorem final_arg (r : Ref sig .tc) (hr : r = main_arg0 ∨ r = main_arg1) (c : Dev nD) :
    finalContents condOps preI bodyI postI 5000 m c (Proc.devRef .tc r) = m ((c.tc : Thread nD τ).loc r) := by
  rcases hr with rfl | rfl <;>
  · rw [show finalContents condOps preI bodyI postI 5000 m c = afterL postI (after condOps (atK m 5000 c)) from rfl,
      post_keeps _ (by
        intro op hop
        simp only [List.cons_append, List.nil_append] at hop
        fin_cases hop <;> exact fun h => devRef_ne_of_ne (by decide) (Finset.mem_singleton.mp h)),
      after_of_writes_sub condOps _ condOps_writes (by decide), loop_keeps m _ (by decide) (by decide) c 5000,
      entry_keeps m _ (by decide) (by decide) (by decide) (by decide) (by decide) c]

/-- What the lines after the loop make of the contents at the loop's end. -/
abbrev Wend (c : Dev nD) : Valuation τ sig (Elt F) := finalContents condOps preI bodyI postI 5000 m c

/-- The run: every result is at `Wend`, the arguments are as they were, no semaphore is left raised. -/
theorem run_values (g : Dev nD → PrngReg) :
    θ_run (defs (F := F)) (onTc (τ := τ) (main (F := F))) ⟨m, fun _ => 0, g⟩ (fun r => (∀ c : Dev nD,
      r.2.mem ((c.tc : Thread nD τ).loc main_v93) = Wend m c (Proc.devRef .tc main_v93)
      ∧ r.2.mem ((c.tc : Thread nD τ).loc main_v101) = Wend m c (Proc.devRef .tc main_v101)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h =>
    ⟨fun c => ⟨h c main_v93 rfl, h c main_v101 rfl, (h c main_arg0 rfl).trans (final_arg m _ (.inl rfl) c),
      (h c main_arg1 rfl).trans (final_arg m _ (.inr rfl) c)⟩, sem_eq_zero_of_no_sems (by decide) _⟩) (run_fold m g)

end Cert.ReferenceIdeal.Own

end
-- ==== Proof.Reads.lean ====
/-
  What the kernel's rearrangements read: an entry of a concatenation of matrices, of a roll, and the entry a stage of the
  sort finds at its distance.
-/
module

public import proofs.«01_k».proof.Proof.Indep
public import Idealize.ShloMosaic.Lib.Pipeline.Value
public import Idealize.ShloMosaic.Lib.SortNet.Sorts

@[expose] public section

noncomputable section

namespace Cert.Nms

open Idealize.ShloMosaic

variable {α : Type}

/-- An entry of matrices laid side by side, in the `k`-th of them. -/
theorem lanes_apply {a n w : ℕ} (xs : List ((s : Shape) × (s.Idx → α))) (h : Shape.Concatenates (xs.map (·.1)) (Shp a n) 1)
    (k : ℕ) (hk : k < xs.length) (x : (Shp a w).Idx → α) (hx : xs[k] = ⟨Shp a w, x⟩) (pre : ℕ)
    (hpre : (((xs.take k).map (·.1)).map fun s => if h : s.rank = (Shp a n).rank then s.size ((1 : Fin (Shp a n).rank).cast h.symm) else 0).sum = pre)
    (p : Fin a) (q : Fin n) (i : Fin w) (hi : pre + i.val = q.val) :
    concatenate (Shp a n) 1 xs h (ix2 p q) = x (ix2 p i) :=
  concatenate_apply_piece (t := Shp a n) 1 xs h (ix2 p q) k hk (Shp a w) x hx rfl pre hpre (ix2 p i)
    (fun b hb => by fin_cases b; exacts [rfl, absurd rfl hb]) hi

/-- An entry of matrices laid one under the other, in the `k`-th of them. -/
theorem rows_apply {n b w : ℕ} (xs : List ((s : Shape) × (s.Idx → α))) (h : Shape.Concatenates (xs.map (·.1)) (Shp n b) 0)
    (k : ℕ) (hk : k < xs.length) (x : (Shp w b).Idx → α) (hx : xs[k] = ⟨Shp w b, x⟩) (pre : ℕ)
    (hpre : (((xs.take k).map (·.1)).map fun s => if h : s.rank = (Shp n b).rank then s.size ((0 : Fin (Shp n b).rank).cast h.symm) else 0).sum = pre)
    (p : Fin n) (q : Fin b) (i : Fin w) (hi : pre + i.val = p.val) :
    concatenate (Shp n b) 0 xs h (ix2 p q) = x (ix2 i q) :=
  concatenate_apply_piece (t := Shp n b) 0 xs h (ix2 p q) k hk (Shp w b) x hx rfl pre hpre (ix2 i q)
    (fun c hb => by fin_cases c; exacts [absurd rfl hb, rfl]) hi

/-! ## Rolls -/

theorem rollLane_apply (s : ℕ) (hs : s ≤ 128) (a : (Shp 64 128).Idx → α) (r : Fin 64) (c : Fin 128) (h : s ≤ c.val) :
    rollLane s hs a (ix2 r c) = a (ix2 r ⟨c.val - s, by omega⟩) := by
  unfold rollLane
  refine (lanes_apply _ _ 1 (by simp) (w := 128 - s) _ rfl s (by simp) r c ⟨c.val - s, by omega⟩ (by simp only; omega)).trans ?_
  rw [slice_apply]
  exact congrArg a (congrArg₂ ix2 (Fin.ext (by simp)) (Fin.ext (by simp)))

theorem rollLane'_apply (s : ℕ) (hs : s ≤ 128) (a : (Shp 64 128).Idx → α) (r : Fin 64) (c : Fin 128) (h : c.val + s < 128) :
    rollLane' s hs a (ix2 r c) = a (ix2 r ⟨c.val + s, h⟩) := by
  unfold rollLane'
  refine (lanes_apply _ _ 0 (by simp) (w := 128 - s) _ rfl 0 (by simp) r c ⟨c.val, by omega⟩ (by simp)).trans ?_
  rw [slice_apply]
  exact congrArg a (congrArg₂ ix2 (Fin.ext (by simp)) (Fin.ext (by simp only; omega)))

theorem rollRow_apply (s : ℕ) (hs : s ≤ 64) (a : (Shp 64 128).Idx → α) (r : Fin 64) (c : Fin 128) (h : s ≤ r.val) :
    rollRow s hs a (ix2 r c) = a (ix2 ⟨r.val - s, by omega⟩ c) := by
  unfold rollRow
  refine (rows_apply _ _ 1 (by simp) (w := 64 - s) _ rfl s (by simp) r c ⟨r.val - s, by omega⟩ (by simp only; omega)).trans ?_
  rw [slice_apply]
  exact congrArg a (congrArg₂ ix2 (Fin.ext (by simp)) (Fin.ext (by simp)))

theorem rollRow'_apply (s : ℕ) (hs : s ≤ 64) (a : (Shp 64 128).Idx → α) (r : Fin 64) (c : Fin 128) (h : r.val + s < 64) :
    rollRow' s hs a (ix2 r c) = a (ix2 ⟨r.val + s, h⟩ c) := by
  unfold rollRow'
  refine (rows_apply _ _ 0 (by simp) (w := 64 - s) _ rfl 0 (by simp) r c ⟨r.val, by omega⟩ (by simp)).trans ?_
  rw [slice_apply]
  exact congrArg a (congrArg₂ ix2 (Fin.ext (by simp only; omega)) (Fin.ext (by simp)))

/-! ## Positions -/

/-- The place of position `p` in row-major order. -/
def pt (p : Fin (2 ^ 13)) : (Shp 64 128).Idx := ix2 ⟨p.val / 128, by omega⟩ ⟨p.val % 128, by omega⟩

theorem posW_pt (p : Fin (2 ^ 13)) : posW (pt p) = BitVec.ofNat 32 p.val := by
  have e0 : (iota .tc (Shp 64 128) 32 [0] (by decide)) (pt p) = BitVec.ofNat 32 (p.val / 128) := by
    show BitVec.ofNat 32 (0 * 64 + p.val / 128) = _
    rw [Nat.zero_mul, Nat.zero_add]
  have e1 : (iota .tc (Shp 64 128) 32 [1] (by decide)) (pt p) = BitVec.ofNat 32 (p.val % 128) := by
    show BitVec.ofNat 32 (0 * 128 + p.val % 128) = _
    rw [Nat.zero_mul, Nat.zero_add]
  show (iota .tc (Shp 64 128) 32 [0] (by decide)) (pt p) * 128#32 + (iota .tc (Shp 64 128) 32 [1] (by decide)) (pt p) = _
  rw [e0, e1]
  apply BitVec.eq_of_toNat_eq
  simp only [BitVec.toNat_add, BitVec.toNat_mul, BitVec.toNat_ofNat]
  omega

/-- Bit `s` of a position, as the kernel tests it. -/
theorem bit_pt (p : Fin (2 ^ 13)) (s : ℕ) (hs : s < 32) :
    (andi posW (broadcast (Shp 64 128) (BitVec.ofNat 32 (2 ^ s)))) (pt p) = 0#32 ↔ p.val &&& 2 ^ s = 0 := by
  show posW (pt p) &&& BitVec.ofNat 32 (2 ^ s) = 0#32 ↔ _
  rw [posW_pt, ← BitVec.toNat_inj]
  have h2 : 2 ^ s < 2 ^ 32 := Nat.pow_lt_pow_right (by decide) hs
  have hp := p.isLt
  rw [BitVec.toNat_and, BitVec.toNat_ofNat, BitVec.toNat_ofNat, Nat.mod_eq_of_lt (by omega), Nat.mod_eq_of_lt h2]
  rfl

theorem upper_pt (p : Fin (2 ^ 13)) (s : ℕ) (hs : s < 32) :
    upper (BitVec.ofNat 32 (2 ^ s)) (pt p) = if p.val &&& 2 ^ s = 0 then 0#1 else 1#1 := by
  show BitVec.ofBool ((andi posW (broadcast (Shp 64 128) (BitVec.ofNat 32 (2 ^ s)))) (pt p) != 0#32) = _
  by_cases h : p.val &&& 2 ^ s = 0
  · rw [if_pos h, (bit_pt p s hs).mpr h]; rfl
  · have := (not_congr (bit_pt p s hs)).mpr h
    rw [if_neg h, bne_iff_ne.mpr this]; rfl

theorem rollLane_pt (s : ℕ) (hs : s ≤ 128) (a : (Shp 64 128).Idx → α) (p p' : Fin (2 ^ 13)) (hp : p'.val = p.val - s) (h : s ≤ p.val % 128) :
    rollLane s hs a (pt p) = a (pt p') :=
  (rollLane_apply s hs a _ _ h).trans (congrArg a (congrArg₂ ix2 (Fin.ext (by simp only; omega)) (Fin.ext (by simp only; omega))))

theorem rollLane'_pt (s : ℕ) (hs : s ≤ 128) (a : (Shp 64 128).Idx → α) (p p' : Fin (2 ^ 13)) (hp : p'.val = p.val + s) (h : p.val % 128 + s < 128) :
    rollLane' s hs a (pt p) = a (pt p') :=
  (rollLane'_apply s hs a _ _ h).trans (congrArg a (congrArg₂ ix2 (Fin.ext (by simp only; omega)) (Fin.ext (by simp only; omega))))

theorem rollRow_pt (s : ℕ) (hs : s ≤ 64) (a : (Shp 64 128).Idx → α) (p p' : Fin (2 ^ 13)) (hp : p'.val = p.val - 128 * s) (h : s ≤ p.val / 128) :
    rollRow s hs a (pt p) = a (pt p') :=
  (rollRow_apply s hs a _ _ h).trans (congrArg a (congrArg₂ ix2 (Fin.ext (by simp only; omega)) (Fin.ext (by simp only; omega))))

theorem rollRow'_pt (s : ℕ) (hs : s ≤ 64) (a : (Shp 64 128).Idx → α) (p p' : Fin (2 ^ 13)) (hp : p'.val = p.val + 128 * s) (h : p.val / 128 + s < 64) :
    rollRow' s hs a (pt p) = a (pt p') :=
  (rollRow'_apply s hs a _ _ h).trans (congrArg a (congrArg₂ ix2 (Fin.ext (by simp only; omega)) (Fin.ext (by simp only; omega))))

/-- The entry a stage finds at distance `2 ^ s` above, -/
theorem partner_low (s : Fin 13) (up : IVec (Shp 64 128) 1) (a : (Shp 64 128).Idx → α) (p p' : Fin (2 ^ 13)) (hu : up (pt p) = 0#1)
    (m : ℕ) (hm : 2 ^ s.val = m) (hv : p'.val = p.val + m) (hd : p.val / m % 2 = 0) : partnerOf s up a (pt p) = a (pt p') := by
  have e : ∀ u v : (Shp 64 128).Idx → α, select up u v (pt p) = v (pt p) := fun u v => by
    show (if _ = 1#1 then _ else _) = _
    rw [hu]; rfl
  have hlt := p'.isLt
  fin_cases s <;> simp at hm <;> subst hm <;> refine (e _ _).trans ?_ <;>
    first
    | exact rollLane'_pt _ _ a p p' hv (by omega)
    | exact rollRow'_pt _ _ a p p' hv (by omega)

/-- and below. -/
theorem partner_up (s : Fin 13) (up : IVec (Shp 64 128) 1) (a : (Shp 64 128).Idx → α) (p p' : Fin (2 ^ 13)) (hu : up (pt p) = 1#1)
    (m : ℕ) (hm : 2 ^ s.val = m) (hv : p'.val = p.val - m) (hd : p.val / m % 2 = 1) : partnerOf s up a (pt p) = a (pt p') := by
  have e : ∀ u v : (Shp 64 128).Idx → α, select up u v (pt p) = u (pt p) := fun u v => by
    show (if _ = 1#1 then _ else _) = _
    rw [hu]; rfl
  fin_cases s <;> simp at hm <;> subst hm <;> refine (e _ _).trans ?_ <;>
    first
    | exact rollLane_pt _ _ a p p' hv (by omega)
    | exact rollRow_pt _ _ a p p' hv (by omega)

/-- The entry a stage finds at distance `2 ^ s`. -/
theorem partnerOf_pt (s : Fin 13) (a : (Shp 64 128).Idx → α) (p : Fin (2 ^ 13)) :
    partnerOf s (upper (BitVec.ofNat 32 (2 ^ s.val))) a (pt p) = a (pt (SortNet.partner 13 s.val p)) := by
  have hup := upper_pt p s.val (by omega)
  have hb := SortNet.and_two_pow_eq_zero_iff_testBit p.val s.val
  rw [Nat.testBit_eq_decide_div_mod_eq] at hb
  by_cases h : p.val &&& 2 ^ s.val = 0
  · have hd := of_decide_eq_false (hb.mp h)
    rw [if_pos h] at hup
    exact partner_low s _ a p _ hup _ rfl (SortNet.partner_val_of_clear s.isLt p h) (by omega)
  · have hd : p.val / 2 ^ s.val % 2 = 1 := by
      by_contra c
      exact h (hb.mpr (decide_eq_false c))
    rw [if_neg h] at hup
    exact partner_up s _ a p _ hup _ rfl (SortNet.partner_val_of_set s.isLt p h).2 hd

/-- A column of a matrix as a vector. -/
theorem column_apply {n w : ℕ} (x : (Shp n w).Idx → α) (k : ℕ) (hk : k < w) (h : (Shp n w).Slices ![0, k] (Shp n 1)) (h' : (Shp n 1).ShapeCasts ⟨1, ![n]⟩)
    (i : Fin n) : shapeCast ⟨1, ![n]⟩ (extractStridedSlice (Shp n 1) ![0, k] x h) h' (ix1 i) = x (ix2 i ⟨k, hk⟩) := by
  rw [shapeCast_apply _ h' (ix1 i) (ix2 i 0) (by
    rw [Shape.rowMajor_val_one, Shape.rowMajor_val_two]
    show i.val * 1 + 0 = i.val
    omega)]
  exact (slice_apply x h i 0).trans (congrArg x (congrArg₂ ix2 (Fin.ext (by simp)) (Fin.ext (by simp))))

end Cert.Nms

end
-- ==== Proof.Order.lean ====
/-
  The mathematics the two programs share, over plain functions: a vector of scores has one order by decreasing score and
  increasing position; a list with a suppression relation has one greedy choice of its elements; a place among the chosen
  elements is one element's or none's.
-/
module

public import Mathlib.Data.EReal.Basic
public import Mathlib.Data.Fintype.Card
public import Mathlib.Data.Finset.Card
public import Mathlib.Order.Interval.Finset.Fin
public import Mathlib.Data.Fintype.EquivFin
public import Mathlib.Tactic.Linarith

@[expose] public section

noncomputable section

namespace Cert.Nms

open Classical

/-! ## The order -/

/-- `i` comes before `j`: its score is greater, or the scores are equal and `i` is the earlier. -/
def Before {n : ℕ} (s : Fin n → EReal) (i j : Fin n) : Prop := s j < s i ∨ (s i = s j ∧ i < j)

/-- `σ` lists the positions in that order. -/
structure IsSort {n : ℕ} (s : Fin n → EReal) (σ : Fin n → Fin n) : Prop where
  inj : Function.Injective σ
  sorted : ∀ p q, p < q → Before s (σ p) (σ q)

theorem Before.asymm {n : ℕ} {s : Fin n → EReal} {i j : Fin n} (h : Before s i j) : ¬ Before s j i := by
  rintro (k | ⟨e, k⟩)
  · rcases h with h | ⟨e, -⟩
    · exact lt_asymm h k
    · exact absurd e (ne_of_lt k)
  · rcases h with h | ⟨-, h⟩
    · exact absurd e (ne_of_lt h)
    · exact lt_asymm h k

theorem Before.irrefl {n : ℕ} {s : Fin n → EReal} {i : Fin n} : ¬ Before s i i := fun h => h.asymm h

/-- In the list an element's place is the number of elements before it. -/
theorem IsSort.rank {n : ℕ} {s : Fin n → EReal} {σ : Fin n → Fin n} (h : IsSort s σ) (p : Fin n) :
    p.val = (Finset.univ.filter fun j => Before s j (σ p)).card := by
  have hb : Function.Bijective σ := Finite.injective_iff_bijective.mp h.inj
  have e : (Finset.univ.filter fun j => Before s j (σ p)) = (Finset.Iio p).image σ := by
    ext j
    simp only [Finset.mem_filter, Finset.mem_univ, true_and, Finset.mem_image, Finset.mem_Iio]
    constructor
    · intro hj
      obtain ⟨q, rfl⟩ := hb.2 j
      refine ⟨q, ?_, rfl⟩
      rcases lt_trichotomy q p with k | k | k
      · exact k
      · subst k; exact absurd hj Before.irrefl
      · exact absurd hj (h.sorted _ _ k).asymm
    · rintro ⟨q, hq, rfl⟩
      exact h.sorted _ _ hq
  rw [e, Finset.card_image_of_injective _ h.inj, Fin.card_Iio]

/-- The order of a vector and that of a longer one, whose further scores are not above the threshold `θ`, agree on the scores above it. -/
theorem rank_cast {n m : ℕ} (hnm : n ≤ m) {s : Fin m → EReal} {s' : Fin n → EReal} {θ : EReal}
    (hs : ∀ i : Fin n, s (Fin.castLE hnm i) = s' i) (hθ : ∀ i : Fin m, n ≤ i.val → ¬ θ < s i) (i : Fin n) (hi : θ < s' i) :
    (Finset.univ.filter fun j => Before s j (Fin.castLE hnm i)).card = (Finset.univ.filter fun j => Before s' j i).card := by
  rw [← Finset.card_image_of_injective (Finset.univ.filter fun j => Before s' j i) (Fin.castLE_injective hnm)]
  congr 1
  ext j
  simp only [Finset.mem_filter, Finset.mem_univ, true_and, Finset.mem_image]
  constructor
  · intro hj
    have hθj : θ < s j := by
      rw [← hs i] at hi
      rcases hj with k | ⟨e, -⟩
      · exact lt_trans hi k
      · rw [e]; exact hi
    have hlt : j.val < n := by
      by_contra c
      exact hθ j (not_lt.mp c) hθj
    refine ⟨⟨j.val, hlt⟩, ?_, rfl⟩
    have ej : Fin.castLE hnm ⟨j.val, hlt⟩ = j := rfl
    unfold Before at hj ⊢
    rw [← hs, ← hs, ej]
    exact hj
  · rintro ⟨k, hk, rfl⟩
    unfold Before at hk ⊢
    rw [hs, hs]
    exact hk

/-- So the two lists agree at every place where either has a score above the threshold. -/
theorem sort_agree {n m : ℕ} (hnm : n ≤ m) {s : Fin m → EReal} {s' : Fin n → EReal} {θ : EReal}
    (hs : ∀ i : Fin n, s (Fin.castLE hnm i) = s' i) (hθ : ∀ i : Fin m, n ≤ i.val → ¬ θ < s i)
    {σ : Fin m → Fin m} (hσ : IsSort s σ) {τ : Fin n → Fin n} (hτ : IsSort s' τ) (p : Fin n)
    (hp : θ < s (σ (Fin.castLE hnm p)) ∨ θ < s' (τ p)) : σ (Fin.castLE hnm p) = Fin.castLE hnm (τ p) := by
  have hbσ : Function.Bijective σ := Finite.injective_iff_bijective.mp hσ.inj
  have hbτ : Function.Bijective τ := Finite.injective_iff_bijective.mp hτ.inj
  rcases hp with hp | hp
  · have hlt : (σ (Fin.castLE hnm p)).val < n := by
      by_contra c
      exact hθ _ (not_lt.mp c) hp
    obtain ⟨q, hq⟩ := hbτ.2 ⟨(σ (Fin.castLE hnm p)).val, hlt⟩
    have e : Fin.castLE hnm (τ q) = σ (Fin.castLE hnm p) := by rw [hq]; rfl
    have hi : θ < s' (τ q) := by rw [← hs, e]; exact hp
    have hr := rank_cast hnm hs hθ (τ q) hi
    rw [e, ← hσ.rank, ← hτ.rank] at hr
    have : p = q := Fin.ext hr
    rw [this, e, this]
  · obtain ⟨q, hq⟩ := hbσ.2 (Fin.castLE hnm (τ p))
    have hr := rank_cast hnm hs hθ (τ p) hp
    rw [← hq, ← hσ.rank, ← hτ.rank] at hr
    have : q = Fin.castLE hnm p := Fin.ext hr
    rw [← this, hq]

/-- Past the shorter list's end no score is above the threshold. -/
theorem sort_tail {n m : ℕ} (hnm : n ≤ m) {s : Fin m → EReal} {s' : Fin n → EReal} {θ : EReal}
    (hs : ∀ i : Fin n, s (Fin.castLE hnm i) = s' i) (hθ : ∀ i : Fin m, n ≤ i.val → ¬ θ < s i)
    {σ : Fin m → Fin m} (hσ : IsSort s σ) {τ : Fin n → Fin n} (hτ : IsSort s' τ) (p : Fin m) (hp : n ≤ p.val) : ¬ θ < s (σ p) := by
  intro h
  have hbτ : Function.Bijective τ := Finite.injective_iff_bijective.mp hτ.inj
  have hlt : (σ p).val < n := by
    by_contra c
    exact hθ _ (not_lt.mp c) h
  obtain ⟨q, hq⟩ := hbτ.2 ⟨(σ p).val, hlt⟩
  have e : Fin.castLE hnm (τ q) = σ p := by rw [hq]; rfl
  have hi : θ < s' (τ q) := by rw [← hs, e]; exact h
  have hr := rank_cast hnm hs hθ (τ q) hi
  rw [e, ← hσ.rank, ← hτ.rank] at hr
  have := q.isLt
  omega

/-! ## The greedy choice -/

/-- `K` is the greedy choice: an element is taken when it is eligible and no element taken before it suppresses it. -/
def Greedy {n : ℕ} (ok : Fin n → Prop) (sup : Fin n → Fin n → Prop) (K : Fin n → Prop) : Prop :=
  ∀ p, K p ↔ ok p ∧ ∀ q, q < p → K q → ¬ sup p q

/-- Greedy choices from a list and from a longer one with nothing eligible past the shorter one's end are the same. -/
theorem greedy_agree {n m : ℕ} (hnm : n ≤ m) {ok : Fin m → Prop} {sup : Fin m → Fin m → Prop} {K : Fin m → Prop}
    {ok' : Fin n → Prop} {sup' : Fin n → Fin n → Prop} {K' : Fin n → Prop} (h : Greedy ok sup K) (h' : Greedy ok' sup' K')
    (hok : ∀ p : Fin n, ok (Fin.castLE hnm p) ↔ ok' p)
    (hsup : ∀ p q : Fin n, ok' p → ok' q → (sup (Fin.castLE hnm p) (Fin.castLE hnm q) ↔ sup' p q)) :
    ∀ p : Fin n, K (Fin.castLE hnm p) ↔ K' p := by
  have key : ∀ v (hv : v < n), K (Fin.castLE hnm ⟨v, hv⟩) ↔ K' ⟨v, hv⟩ := by
    intro v
    induction v using Nat.strong_induction_on with
    | _ v ih =>
      intro hv
      rw [h, h', hok]
      refine and_congr_right fun hp => ⟨fun a q hq kq => ?_, fun a q hq kq => ?_⟩
      · have hqv : q.val < v := hq
        have k := (ih q.val hqv q.isLt).mpr kq
        have := a (Fin.castLE hnm q) hq k
        rwa [hsup _ _ hp ((h' q).mp kq).1] at this
      · have hqv : q.val < v := hq
        have k := (ih q.val hqv (by omega)).mp kq
        have := a ⟨q.val, by omega⟩ hq k
        rwa [← hsup _ _ hp ((h' _).mp k).1] at this
  exact fun p => key p.val p.isLt

/-- `p` is the chosen element at place `r` (counted from 0). -/
def IsRth {n : ℕ} (K : Fin n → Prop) (r : ℕ) (p : Fin n) : Prop :=
  K p ∧ (Finset.univ.filter fun q => q < p ∧ K q).card = r

/-- The places among the choices from the two lists are the same. -/
theorem isRth_agree {n m : ℕ} (hnm : n ≤ m) {K : Fin m → Prop} {K' : Fin n → Prop} (h : ∀ p : Fin n, K (Fin.castLE hnm p) ↔ K' p)
    (r : ℕ) (p : Fin n) : IsRth K r (Fin.castLE hnm p) ↔ IsRth K' r p := by
  unfold IsRth
  rw [h]
  refine and_congr_right fun _ => ?_
  rw [← Finset.card_image_of_injective (Finset.univ.filter fun q => q < p ∧ K' q) (Fin.castLE_injective hnm)]
  have e : (Finset.univ.filter fun q => q < Fin.castLE hnm p ∧ K q) = (Finset.univ.filter fun q => q < p ∧ K' q).image (Fin.castLE hnm) := by
    ext q
    simp only [Finset.mem_filter, Finset.mem_univ, true_and, Finset.mem_image]
    constructor
    · rintro ⟨hq, k⟩
      have hqp : q.val < p.val := hq
      have hqn : q.val < n := by omega
      exact ⟨⟨q.val, hqn⟩, ⟨hq, (h ⟨q.val, hqn⟩).mp k⟩, rfl⟩
    · rintro ⟨q, ⟨hq, k⟩, rfl⟩
      exact ⟨hq, (h q).mpr k⟩
  rw [e]

end Cert.Nms

end
-- ==== Proof.Sort.lean ====
/-
  The kernel's stages sort: over the extended reals the arrays after the 91 stages are the arrays before read through one
  list of the positions, the one by decreasing score and increasing position.
-/
module

public import proofs.«01_k».proof.Proof.Reads
public import proofs.«01_k».proof.Proof.Order
public import Idealize.ShloMosaic.PureOps.Ideal
public import Idealize.ShloMosaic.Lib.Pointwise
public import Mathlib.Data.Prod.Lex
public import Mathlib.Order.OrderDual

@[expose] public section

noncomputable section

namespace Cert.Nms

open Idealize.ShloMosaic

/-- Positions. -/
abbrev Pos := Fin (2 ^ 13)

/-- The scores by position. -/
def scoreAt (sc : Mat Ideal 64 128) (p : Pos) : EReal := sc (pt p)

/-- What the sort compares: the score, then the position, the earlier the greater. -/
def rankOf (s : Pos → EReal) (i : Pos) : EReal ×ₗ (Pos)ᵒᵈ := toLex (s i, OrderDual.toDual i)

theorem rankOf_lt (s : Pos → EReal) (i j : Pos) : rankOf s j < rankOf s i ↔ Before s i j := by
  unfold rankOf Before
  rw [Prod.Lex.toLex_lt_toLex]
  exact or_congr_right (and_congr_left' ⟨Eq.symm, Eq.symm⟩)

theorem rankOf_injective (s : Pos → EReal) : Function.Injective (rankOf s) := fun i j h =>
  OrderDual.toDual.injective (congrArg (fun x => (ofLex x).2) h)

/-- The arrays of `a` are those of `b` read through `σ`, the index array telling where from. -/
structure Through (b : Sorted Ideal) (σ : Pos → Pos) (a : Sorted Ideal) : Prop where
  key : ∀ p, a.key (pt p) = b.key (pt (σ p))
  idx : ∀ p, a.idx (pt p) = BitVec.ofNat 32 (σ p).val
  x : ∀ p, a.x (pt p) = b.x (pt (σ p))
  y : ∀ p, a.y (pt p) = b.y (pt (σ p))
  w : ∀ p, a.w (pt p) = b.w (pt (σ p))
  h : ∀ p, a.h (pt p) = b.h (pt (σ p))

/-- Where a position keeps the greater: its block ascends or not, it is the lower end of its pair or not. -/
def keepB (l s : ℕ) (p : Pos) : Bool := decide (p.val &&& 2 ^ (l + 1) = 0) == decide (p.val &&& 2 ^ s = 0)

theorem keepB_partner {l s : ℕ} (hs : s < 13) (hl : s < l + 1) (p : Pos) : keepB l s (SortNet.partner 13 s p) = !keepB l s p := by
  have h1 : ((SortNet.partner 13 s p).val &&& 2 ^ (l + 1) = 0) ↔ (p.val &&& 2 ^ (l + 1) = 0) := by
    rw [SortNet.and_two_pow_eq_zero_iff_testBit, SortNet.and_two_pow_eq_zero_iff_testBit, SortNet.partner_val hs, Nat.testBit_xor,
      Nat.testBit_two_pow, decide_eq_false (by omega), Bool.xor_false]
  have h2 : ((SortNet.partner 13 s p).val &&& 2 ^ s = 0) ↔ ¬ (p.val &&& 2 ^ s = 0) := by
    rw [SortNet.and_two_pow_eq_zero_iff_testBit, SortNet.and_two_pow_eq_zero_iff_testBit, SortNet.partner_val hs, Nat.testBit_xor,
      Nat.testBit_two_pow, decide_eq_true rfl]
    cases p.val.testBit s <;> simp
  unfold keepB
  simp only [h1, h2]
  by_cases h : p.val &&& 2 ^ s = 0 <;> by_cases k : p.val &&& 2 ^ (l + 1) = 0 <;> simp [h, k]

theorem cmpi_slt_ofNat (i j : Pos) : IntOp.cmpi .slt (BitVec.ofNat 32 i.val) (BitVec.ofNat 32 j.val) = BitVec.ofBool (decide (i < j)) := by
  show BitVec.ofBool ((BitVec.ofNat 32 i.val).slt (BitVec.ofNat 32 j.val)) = _
  have hi := i.isLt
  have hj := j.isLt
  have e : ∀ k : ℕ, k < 2 ^ 13 → (BitVec.ofNat 32 k).toInt = k := fun k hk => by
    rw [BitVec.toInt_eq_toNat_of_lt (by rw [BitVec.toNat_ofNat]; omega), BitVec.toNat_ofNat]
    congr 1
    omega
  rw [BitVec.slt, e _ hi, e _ hj]
  exact congrArg BitVec.ofBool (decide_eq_decide.mpr (by rw [Int.ofNat_lt]; rfl))

/-- The mask of a stage at a position. -/
theorem takeOf_pt {b a : Sorted Ideal} {σ : Pos → Pos} (hσ : Function.Injective σ) (ha : Through b σ a) (l s : Fin 13) (p : Pos) :
    takeOf l s a.key a.idx (pt p) =
      if decide (rankOf (scoreAt b.key) (σ (SortNet.partner 13 s.val p)) < rankOf (scoreAt b.key) (σ p)) = keepB l.val s.val p then 0#1 else 1#1 := by
  have hu := upper_pt p s.val (by omega)
  have hk : cmpi .eq (andi posW (broadcast (Shp 64 128) (BitVec.ofNat 32 (2 ^ (l.val + 1))))) (broadcast (Shp 64 128) 0#32) (pt p)
      = BitVec.ofBool (decide (p.val &&& 2 ^ (l.val + 1) = 0)) := by
    show BitVec.ofBool ((andi posW (broadcast (Shp 64 128) (BitVec.ofNat 32 (2 ^ (l.val + 1))))) (pt p) == 0#32) = _
    rw [beq_eq_decide]
    exact congrArg BitVec.ofBool (decide_eq_decide.mpr (bit_pt p (l.val + 1) (by omega)))
  have hb : (ori (cmpf .ogt (partnerOf s (upper (BitVec.ofNat 32 (2 ^ s.val))) a.key) a.key)
        (andi (cmpf .oeq (partnerOf s (upper (BitVec.ofNat 32 (2 ^ s.val))) a.key) a.key)
          (cmpi .slt (partnerOf s (upper (BitVec.ofNat 32 (2 ^ s.val))) a.idx) a.idx))) (pt p)
      = BitVec.ofBool (!decide (rankOf (scoreAt b.key) (σ (SortNet.partner 13 s.val p)) < rankOf (scoreAt b.key) (σ p))) := by
    show (Ideal.cmp .ogt (partnerOf s (upper (BitVec.ofNat 32 (2 ^ s.val))) a.key (pt p)) (a.key (pt p)) |||
      (Ideal.cmp .oeq (partnerOf s (upper (BitVec.ofNat 32 (2 ^ s.val))) a.key (pt p)) (a.key (pt p)) &&&
        IntOp.cmpi .slt (partnerOf s (upper (BitVec.ofNat 32 (2 ^ s.val))) a.idx (pt p)) (a.idx (pt p)))) = _
    rw [partnerOf_pt, partnerOf_pt, ha.key, ha.key, ha.idx, ha.idx, cmpi_slt_ofNat]
    show (BitVec.ofBool _ ||| (BitVec.ofBool _ &&& BitVec.ofBool _)) = _
    rw [BitVec.ofBool_and_ofBool, BitVec.ofBool_or_ofBool, ← Bool.decide_and, ← Bool.decide_or, ← decide_not]
    refine congrArg BitVec.ofBool (decide_eq_decide.mpr ?_)
    have hne : rankOf (scoreAt b.key) (σ (SortNet.partner 13 s.val p)) ≠ rankOf (scoreAt b.key) (σ p) := fun e => by
      have e1 := hσ (rankOf_injective _ e)
      have e2 := congrArg Fin.val e1
      rw [SortNet.partner_val s.isLt] at e2
      have e3 := congrArg (Nat.testBit · s.val) e2
      simp only [Nat.testBit_xor, Nat.testBit_two_pow, decide_true] at e3
      cases h : p.val.testBit s.val <;> rw [h] at e3 <;> exact absurd e3 (by decide)
    have hiff := rankOf_lt (scoreAt b.key) (σ (SortNet.partner 13 s.val p)) (σ p)
    unfold Before at hiff
    show (scoreAt b.key _ < scoreAt b.key _ ∨ (scoreAt b.key _ = scoreAt b.key _ ∧ _)) ↔ _
    rw [← hiff]
    exact ⟨fun h => not_lt.mpr (le_of_lt h), fun h => lt_of_le_of_ne (not_lt.mp h) (Ne.symm hne)⟩
  unfold takeOf takes
  show ((ori _ _) (pt p) ^^^ (((cmpi .eq _ _) (pt p) ^^^ (upper _ (pt p) ^^^ 1#1)) ^^^ 1#1)) ^^^ 1#1 = _
  rw [hb, hk, hu]
  unfold keepB
  by_cases h1 : p.val &&& 2 ^ s.val = 0 <;> by_cases h2 : p.val &&& 2 ^ (l.val + 1) = 0 <;>
    by_cases h3 : rankOf (scoreAt b.key) (σ (SortNet.partner 13 s.val p)) < rankOf (scoreAt b.key) (σ p) <;> simp [h1, h2, h3]

/-- The list of positions after a stage. -/
def srcOf (s : Pos → EReal) (l t : Fin 13) (σ : Pos → Pos) : Pos → Pos := fun p =>
  σ (SortNet.stageSrc 13 t.val (keepB l.val t.val) (fun i => rankOf s (σ i)) p)

/-- A stage reads through the list after it. -/
theorem stage_through {b a : Sorted Ideal} {σ : Pos → Pos} (hσ : Function.Injective σ) (ha : Through b σ a) (l s : Fin 13) :
    Through b (srcOf (scoreAt b.key) l s σ) (stage l s a) := by
  have ex : ∀ {α : Type} (v : (Shp 64 128).Idx → α) (p : Pos), exchange s (takeOf l s a.key a.idx) v (pt p)
      = v (pt (SortNet.stageSrc 13 s.val (keepB l.val s.val) (fun i => rankOf (scoreAt b.key) (σ i)) p)) := fun v p => by
    unfold exchange
    show (if takeOf l s a.key a.idx (pt p) = 1#1 then partnerOf s _ v (pt p) else v (pt p)) = _
    rw [takeOf_pt hσ ha, partnerOf_pt]
    unfold SortNet.stageSrc
    split <;> rfl
  exact ⟨fun p => (ex a.key p).trans (ha.key _), fun p => (ex a.idx p).trans (ha.idx _), fun p => (ex a.x p).trans (ha.x _),
    fun p => (ex a.y p).trans (ha.y _), fun p => (ex a.w p).trans (ha.w _), fun p => (ex a.h p).trans (ha.h _)⟩

/-- The stages as a network of exchanges. -/
def netOf (L : List (Fin 13 × Fin 13)) : SortNet.Network (2 ^ 13) :=
  L.flatMap fun q => SortNet.stage 13 q.2.val fun i => decide (i.val &&& 2 ^ (q.1.val + 1) = 0) == true

theorem srcOf_rank (s : Pos → EReal) (l t : Fin 13) (hl : t.val ≤ l.val) (σ : Pos → Pos) :
    (fun i => rankOf s (srcOf s l t σ i))
      = SortNet.Network.apply (SortNet.stage 13 t.val fun i => decide (i.val &&& 2 ^ (l.val + 1) = 0) == true) (fun i => rankOf s (σ i)) := by
  have e : (SortNet.stage 13 t.val fun i => decide (i.val &&& 2 ^ (l.val + 1) = 0) == true) = SortNet.stage 13 t.val (keepB l.val t.val) :=
    SortNet.stage_congr fun i hi => by unfold keepB; rw [decide_eq_true hi]
  rw [e]
  funext i
  exact (SortNet.apply_stage_src t.isLt _ (keepB_partner t.isLt (Nat.lt_succ_of_le hl)) (fun i => rankOf s (σ i)) i).symm

/-- The stages read through a list whose ranks are what the network makes of them. -/
theorem runStages_through (b : Sorted Ideal) (L : List (Fin 13 × Fin 13)) (hL : ∀ q ∈ L, q.2.val ≤ q.1.val) : ∀ (a : Sorted Ideal) (σ : Pos → Pos),
    Function.Injective σ → Through b σ a → ∃ τ : Pos → Pos, Function.Injective τ ∧ Through b τ (runStages L a) ∧
      (fun i => rankOf (scoreAt b.key) (τ i)) = SortNet.Network.apply (netOf L) (fun i => rankOf (scoreAt b.key) (σ i)) := by
  induction L with
  | nil => exact fun a σ hσ ha => ⟨σ, hσ, ha, rfl⟩
  | cons q L ih =>
    intro a σ hσ ha
    have hr := srcOf_rank (scoreAt b.key) q.1 q.2 (hL q List.mem_cons_self) σ
    have hinj : Function.Injective (srcOf (scoreAt b.key) q.1 q.2 σ) := by
      obtain ⟨π, hπ⟩ := SortNet.Network.exists_perm (SortNet.stage 13 q.2.val fun i => decide (i.val &&& 2 ^ (q.1.val + 1) = 0) == true)
        (fun i => rankOf (scoreAt b.key) (σ i))
      rw [← hr] at hπ
      intro i j hij
      have e := congrArg (rankOf (scoreAt b.key)) hij
      have ei := congrFun hπ i
      have ej := congrFun hπ j
      simp only [Function.comp_apply] at ei ej
      rw [ei, ej] at e
      exact π.injective (hσ (rankOf_injective _ e))
    obtain ⟨τ, h1, h2, h3⟩ := ih (fun q hq => hL q (List.mem_cons_of_mem _ hq)) _ _ hinj (stage_through hσ ha q.1 q.2)
    refine ⟨τ, h1, h2, h3.trans ?_⟩
    unfold netOf
    rw [List.flatMap_cons, SortNet.Network.apply_append, hr]

theorem netOf_stages : netOf stages = SortNet.sortNet 13 true := by
  have e : stages.map (fun q => (q.1.val, q.2.val)) = (List.range 13).flatMap fun l => (List.range (l + 1)).reverse.map fun s => (l, s) := by
    decide +kernel
  have e1 : netOf stages = (stages.map (fun q => (q.1.val, q.2.val))).flatMap fun q =>
      SortNet.stage 13 q.2 fun i => decide (i.val &&& 2 ^ (q.1 + 1) = 0) == true := by
    rw [List.flatMap_map]; rfl
  rw [e1, e, List.flatMap_assoc]
  unfold SortNet.sortNet
  simp only [List.flatMap_map]

theorem stages_le : ∀ q ∈ stages, q.2.val ≤ q.1.val := by decide +kernel

/-- The sort, read: some list of the positions sorted by score, through which each array is read. -/
theorem sorted_through (sc x y w h : Mat Ideal 64 128) :
    ∃ τ : Pos → Pos, IsSort (scoreAt sc) τ ∧ Through ⟨sc, posW, x, y, w, h⟩ τ (runStages stages ⟨sc, posW, x, y, w, h⟩) := by
  obtain ⟨τ, h1, h2, h3⟩ := runStages_through ⟨sc, posW, x, y, w, h⟩ stages stages_le ⟨sc, posW, x, y, w, h⟩ id Function.injective_id
    ⟨fun _ => rfl, fun p => posW_pt p, fun _ => rfl, fun _ => rfl, fun _ => rfl, fun _ => rfl⟩
  refine ⟨τ, ⟨h1, fun p q hpq => ?_⟩, h2⟩
  have hm := SortNet.sortNet_apply_antitone 13 (fun i => rankOf (scoreAt sc) i) (le_of_lt hpq)
  rw [netOf_stages] at h3
  have ep := congrFun h3 p
  have eq := congrFun h3 q
  simp only [id] at ep eq
  rw [← ep, ← eq] at hm
  exact (rankOf_lt _ _ _).mp (lt_of_le_of_ne hm fun e => absurd (h1 (rankOf_injective _ e)) (ne_of_gt hpq))

end Cert.Nms

end
-- ==== Proof.Table.lean ====
/-
  The tables over the extended reals: row `p` holds the box, its area and the score of the sorted position `p`; and the
  overlap of two boxes, which does not depend on which of the two comes first.
-/
module

public import proofs.«01_k».proof.Proof.Sort

@[expose] public section

noncomputable section

namespace Cert.Nms

open Idealize.ShloMosaic

/-! ## Boxes -/

/-- A box: its left, top, right and bottom edge. -/
structure Box where
  x1 : EReal
  y1 : EReal
  x2 : EReal
  y2 : EReal

/-- The box with the given place and size, all as fractions. -/
def boxOf (x y w h : EReal) : Box :=
  ⟨x * Ideal.ofBits .f32 0x44800000#32, y * Ideal.ofBits .f32 0x44800000#32,
    x * Ideal.ofBits .f32 0x44800000#32 + (w * Ideal.ofBits .f32 0x43480000#32 + Ideal.ofBits .f32 0x3F800000#32),
    y * Ideal.ofBits .f32 0x44800000#32 + (h * Ideal.ofBits .f32 0x43480000#32 + Ideal.ofBits .f32 0x3F800000#32)⟩

/-- Its area. -/
def Box.area (a : Box) : EReal := (a.x2 - a.x1) * (a.y2 - a.y1)

/-- The area two boxes share. -/
def interE (a b : Box) : EReal := max (min a.x2 b.x2 - max a.x1 b.x1) 0 * max (min a.y2 b.y2 - max a.y1 b.y1) 0

/-- The share of the two boxes' union it is. -/
def iouE (a b : Box) : EReal := Ideal.div (interE a b) (max (a.area + b.area - interE a b) (Ideal.ofBits .f32 0x3089705F#32))

/-- The boxes overlap above the threshold. -/
def Overlap (a b : Box) : Prop := Ideal.ofBits .f32 0x3E99999A#32 < iouE a b

theorem iouE_comm (a b : Box) : iouE a b = iouE b a := by
  have e : interE a b = interE b a := by
    unfold interE
    rw [min_comm a.x2, max_comm a.x1, min_comm a.y2, max_comm a.y1]
  unfold iouE
  rw [e, add_comm a.area]

theorem Overlap.comm {a b : Box} : Overlap a b ↔ Overlap b a := by unfold Overlap; rw [iouE_comm]

/-! ## The tables -/

/-- The position of a table's row. -/
def posOf (p : Fin 5120) : Pos := ⟨p.val, by omega⟩

theorem pt_rowAt (j : Fin 10) (i : Fin 512) (h0 : 4 * j.val + i.val / 128 < 64) (h1 : i.val % 128 < 128) :
    pt (posOf (rowAt j i)) = ix2 ⟨4 * j.val + i.val / 128, h0⟩ ⟨i.val % 128, h1⟩ :=
  congrArg₂ ix2 (Fin.ext (by show (512 * j.val + i.val) / 128 = 4 * j.val + i.val / 128; omega)) (Fin.ext (by show (512 * j.val + i.val) % 128 = i.val % 128; omega))

theorem transpose_apply {α : Type} {a b : ℕ} (x : (Shp a b).Idx → α) (h : (Shp a b).Transposes [1, 0] (Shp b a)) (p : Fin b) (q : Fin a) :
    transpose (Shp b a) [1, 0] x h (ix2 p q) = x (ix2 q p) := by
  refine congrArg x (funext fun k => Fin.ext ?_)
  fin_cases k <;> rfl

theorem colview_apply (j : Fin 10) (a : Mat Ideal 64 128) (i : Fin 512) : colview j a (ix2 0 i) = a (pt (posOf (rowAt j i))) := by
  rw [pt_rowAt j i (by omega) (by omega)]
  unfold colview
  have hk : i.val / 128 < 4 := by omega
  have key : ∀ k : ℕ, i.val / 128 = k → ∀ (h : (Shp 4 128).Slices ![k, 0] (Shp 1 128)) (h' : (Shp 64 128).Slices ![4 * j.val, 0] (Shp 4 128)),
      extractStridedSlice (Shp 1 128) ![k, 0] (extractStridedSlice (Shp 4 128) ![4 * j.val, 0] a h') h (ix2 0 ⟨i.val % 128, by omega⟩)
        = a (ix2 ⟨4 * j.val + i.val / 128, by omega⟩ ⟨i.val % 128, by omega⟩) := fun k e h h' => by
    rw [slice_apply, slice_apply]
    exact congrArg a (congrArg₂ ix2 (Fin.ext (by simp; omega)) (Fin.ext (by simp)))
  rcases (by omega : i.val / 128 = 0 ∨ i.val / 128 = 1 ∨ i.val / 128 = 2 ∨ i.val / 128 = 3) with e | e | e | e
  · exact (lanes_apply _ _ 0 (by simp) (w := 128) _ rfl 0 (by simp) 0 i ⟨i.val % 128, by omega⟩ (by simp only; omega)).trans (key 0 e _ _)
  · exact (lanes_apply _ _ 1 (by simp) (w := 128) _ rfl 128 (by simp) 0 i ⟨i.val % 128, by omega⟩ (by simp only; omega)).trans (key 1 e _ _)
  · exact (lanes_apply _ _ 2 (by simp) (w := 128) _ rfl 256 (by simp) 0 i ⟨i.val % 128, by omega⟩ (by simp only; omega)).trans (key 2 e _ _)
  · exact (lanes_apply _ _ 3 (by simp) (w := 128) _ rfl 384 (by simp) 0 i ⟨i.val % 128, by omega⟩ (by simp only; omega)).trans (key 3 e _ _)

theorem rowview_apply (j : Fin 10) (a : Mat Ideal 64 128) (i : Fin 512) : rowview j a (ix2 i 0) = a (pt (posOf (rowAt j i))) := by
  rw [pt_rowAt j i (by omega) (by omega)]
  unfold rowview
  have hk : i.val / 128 < 4 := by omega
  have key : ∀ k : ℕ, i.val / 128 = k → ∀ (h : (Shp 128 4).Slices ![0, k] (Shp 128 1)) (h' : (Shp 64 128).Slices ![4 * j.val, 0] (Shp 4 128))
      (h'' : (Shp 4 128).Transposes [1, 0] (Shp 128 4)),
      extractStridedSlice (Shp 128 1) ![0, k] (transpose (Shp 128 4) [1, 0] (extractStridedSlice (Shp 4 128) ![4 * j.val, 0] a h') h'') h (ix2 ⟨i.val % 128, by omega⟩ 0)
        = a (ix2 ⟨4 * j.val + i.val / 128, by omega⟩ ⟨i.val % 128, by omega⟩) := fun k e h h' h'' => by
    rw [slice_apply, transpose_apply, slice_apply]
    exact congrArg a (congrArg₂ ix2 (Fin.ext (by simp; omega)) (Fin.ext (by simp)))
  rcases (by omega : i.val / 128 = 0 ∨ i.val / 128 = 1 ∨ i.val / 128 = 2 ∨ i.val / 128 = 3) with e | e | e | e
  · exact (rows_apply _ _ 0 (by simp) (w := 128) _ rfl 0 (by simp) i 0 ⟨i.val % 128, by omega⟩ (by simp only; omega)).trans (key 0 e _ _ _)
  · exact (rows_apply _ _ 1 (by simp) (w := 128) _ rfl 128 (by simp) i 0 ⟨i.val % 128, by omega⟩ (by simp only; omega)).trans (key 1 e _ _ _)
  · exact (rows_apply _ _ 2 (by simp) (w := 128) _ rfl 256 (by simp) i 0 ⟨i.val % 128, by omega⟩ (by simp only; omega)).trans (key 2 e _ _ _)
  · exact (rows_apply _ _ 3 (by simp) (w := 128) _ rfl 384 (by simp) i 0 ⟨i.val % 128, by omega⟩ (by simp only; omega)).trans (key 3 e _ _ _)

/-- The box at a position. -/
def boxAt (a : Sorted Ideal) (p : Pos) : Box := boxOf (a.x (pt p)) (a.y (pt p)) (a.w (pt p)) (a.h (pt p))

/-- What a row of the table holds, column by column. -/
def rowE (a : Sorted Ideal) (p : Pos) (c : ℕ) : EReal :=
  match c with
  | 0 => (boxAt a p).x1
  | 1 => (boxAt a p).y1
  | 2 => (boxAt a p).x2
  | 3 => (boxAt a p).y2
  | 4 => (boxAt a p).area
  | _ => a.key (pt p)

theorem rowAt_of (p : Fin 5120) : rowAt (blkOf p) (locOf p) = p := Fin.ext (by show 512 * (p.val / 512) + p.val % 512 = p.val; omega)

/-- The table. -/
theorem tblOf_apply (a : Sorted Ideal) (p : Fin 5120) (c : Fin 8) (hc : c.val < 6) : tblOf a (ix2 p c) = rowE a (posOf p) c.val := by
  unfold tblOf
  rw [fillsT_apply, if_pos ⟨List.mem_finRange _, hc⟩]
  have hv : ∀ v : Mat Ideal 64 128, rowview (blkOf p) v (ix2 (locOf p) 0) = v (pt (posOf p)) := fun v => by rw [rowview_apply, rowAt_of]
  rcases c with ⟨c, h8⟩
  rcases (by simp only at hc; omega : c = 0 ∨ c = 1 ∨ c = 2 ∨ c = 3 ∨ c = 4 ∨ c = 5) with e | e | e | e | e | e <;> subst e
  · exact congrArg (· * Ideal.ofBits .f32 0x44800000#32) (hv a.x)
  · exact congrArg (· * Ideal.ofBits .f32 0x44800000#32) (hv a.y)
  · exact congrArg₂ (fun x w => x * Ideal.ofBits .f32 0x44800000#32 + (w * Ideal.ofBits .f32 0x43480000#32 + Ideal.ofBits .f32 0x3F800000#32)) (hv a.x) (hv a.w)
  · exact congrArg₂ (fun x w => x * Ideal.ofBits .f32 0x44800000#32 + (w * Ideal.ofBits .f32 0x43480000#32 + Ideal.ofBits .f32 0x3F800000#32)) (hv a.y) (hv a.h)
  · show (boxOf (rowview (blkOf p) a.x (ix2 (locOf p) 0)) (rowview (blkOf p) a.y (ix2 (locOf p) 0)) (rowview (blkOf p) a.w (ix2 (locOf p) 0))
      (rowview (blkOf p) a.h (ix2 (locOf p) 0))).area = _
    rw [hv, hv, hv, hv]; rfl
  · exact hv a.key

/-- The transposed table. -/
theorem tblOf'_apply (a : Sorted Ideal) (p : Fin 5120) (c : Fin 8) (hc : c.val < 5) : tblOf' a (ix2 c p) = rowE a (posOf p) c.val := by
  unfold tblOf'
  rw [fillsT'_apply, if_pos ⟨List.mem_finRange _, hc⟩]
  have hv : ∀ v : Mat Ideal 64 128, colview (blkOf p) v (ix2 0 (locOf p)) = v (pt (posOf p)) := fun v => by rw [colview_apply, rowAt_of]
  rcases c with ⟨c, h8⟩
  rcases (by simp only at hc; omega : c = 0 ∨ c = 1 ∨ c = 2 ∨ c = 3 ∨ c = 4) with e | e | e | e | e <;> subst e
  · exact congrArg (· * Ideal.ofBits .f32 0x44800000#32) (hv a.x)
  · exact congrArg (· * Ideal.ofBits .f32 0x44800000#32) (hv a.y)
  · exact congrArg₂ (fun x w => x * Ideal.ofBits .f32 0x44800000#32 + (w * Ideal.ofBits .f32 0x43480000#32 + Ideal.ofBits .f32 0x3F800000#32)) (hv a.x) (hv a.w)
  · exact congrArg₂ (fun x w => x * Ideal.ofBits .f32 0x44800000#32 + (w * Ideal.ofBits .f32 0x43480000#32 + Ideal.ofBits .f32 0x3F800000#32)) (hv a.y) (hv a.h)
  · show (boxOf (colview (blkOf p) a.x (ix2 0 (locOf p))) (colview (blkOf p) a.y (ix2 0 (locOf p))) (colview (blkOf p) a.w (ix2 0 (locOf p)))
      (colview (blkOf p) a.h (ix2 0 (locOf p)))).area = _
    rw [hv, hv, hv, hv]; rfl

/-- The first result. -/
theorem detsOf_apply (tbl : Mat Ideal 5120 8) (keep : Mat Ideal 5120 1) (p : Fin 5120) (c : Fin 8) :
    detsOf tbl keep (ix2 p c) = (if c.val < 4 then tbl (ix2 p c) else if c.val = 4 then tbl (ix2 p 5) else 0) * keep (ix2 p 0) := by
  have hb : broadcastTo (Shp 5120 8) keep (by decide) (ix2 p c) = keep (ix2 p 0) := by
    refine congrArg keep (funext fun k => Fin.ext ?_)
    fin_cases k <;> rfl
  unfold detsOf
  show (concatenate _ _ _ _ (ix2 p c) : EReal) * broadcastTo (Shp 5120 8) keep (by decide) (ix2 p c) = _
  rw [hb]
  refine congrArg (· * keep (ix2 p 0)) ?_
  have key : ∀ (k : ℕ) (hk : k < 8) (h : (Shp 5120 8).Slices ![0, k] (Shp 5120 1)), extractStridedSlice (Shp 5120 1) ![0, k] tbl h (ix2 p 0) = tbl (ix2 p ⟨k, hk⟩) := fun k hk h => by
    rw [slice_apply]
    exact congrArg tbl (congrArg₂ ix2 (Fin.ext (by simp)) (Fin.ext (by simp)))
  have z : (broadcast (Shp 5120 1) (Scalar.ofBits .f32 0x00000000#32 : Ideal .f32)) (ix2 p 0) = (0 : EReal) := Ideal.ofBits_zero_f32
  rcases c with ⟨c, h8⟩
  rcases (by omega : c = 0 ∨ c = 1 ∨ c = 2 ∨ c = 3 ∨ c = 4 ∨ c = 5 ∨ c = 6 ∨ c = 7) with e | e | e | e | e | e | e | e <;> subst e
  · exact (lanes_apply _ _ 0 (by simp) (w := 1) _ rfl 0 (by simp) p _ 0 rfl).trans (key 0 (by decide) _)
  · exact (lanes_apply _ _ 1 (by simp) (w := 1) _ rfl 1 (by simp) p _ 0 rfl).trans (key 1 (by decide) _)
  · exact (lanes_apply _ _ 2 (by simp) (w := 1) _ rfl 2 (by simp) p _ 0 rfl).trans (key 2 (by decide) _)
  · exact (lanes_apply _ _ 3 (by simp) (w := 1) _ rfl 3 (by simp) p _ 0 rfl).trans (key 3 (by decide) _)
  · exact (lanes_apply _ _ 4 (by simp) (w := 1) _ rfl 4 (by simp) p _ 0 rfl).trans (key 5 (by decide) _)
  · exact (lanes_apply _ _ 5 (by simp) (w := 1) _ rfl 5 (by simp) p _ 0 rfl).trans z
  · exact (lanes_apply _ _ 6 (by simp) (w := 1) _ rfl 6 (by simp) p _ 0 rfl).trans z
  · exact (lanes_apply _ _ 7 (by simp) (w := 1) _ rfl 7 (by simp) p _ 0 rfl).trans z

end Cert.Nms

end
-- ==== Proof.Count.lean ====
/-
  Columns and matrices of zeros and ones over the extended reals: their sums are counts, and the comparisons the kernel
  makes of the counts say whether there is anything to count.
-/
module

public import proofs.«01_k».proof.Proof.Struct
public import Idealize.ShloMosaic.PureOps.Ideal
public import Idealize.ShloMosaic.PureOps.Ideal.Laws
public import Idealize.ShloMosaic.Lib.Pointwise
public import Mathlib.Algebra.BigOperators.Ring.Finset
public import Mathlib.Data.EReal.Operations
public import Mathlib.Tactic.NormNum

@[expose] public section

noncomputable section

namespace Cert.Nms

open Idealize.ShloMosaic Classical

/-- 1 where `P` holds, 0 where not. -/
def ind (P : Prop) : EReal := if P then 1 else 0

theorem ind_true {P : Prop} (h : P) : ind P = 1 := if_pos h
theorem ind_false {P : Prop} (h : ¬ P) : ind P = 0 := if_neg h

theorem ind_mul (P Q : Prop) : ind P * ind Q = ind (P ∧ Q) := by
  by_cases p : P <;> by_cases q : Q <;> simp [ind, p, q]

theorem ind_congr {P Q : Prop} (h : P ↔ Q) : ind P = ind Q := by rw [propext h]

theorem ind_inj {P Q : Prop} (h : ind P = ind Q) : P ↔ Q := by
  by_cases p : P <;> by_cases q : Q <;> simp [ind, p, q] at h ⊢

/-- A sum of indicators counts. -/
theorem sum_ind {ι : Type} (s : Finset ι) (P : ι → Prop) [DecidablePred P] : ∑ k ∈ s, ind (P k) = (((s.filter P).card : ℕ) : EReal) := by
  induction s using Finset.induction_on with
  | empty => simp
  | insert a s ha ih =>
    rw [Finset.sum_insert ha, ih, Finset.filter_insert]
    by_cases h : P a
    · rw [ind_true h, if_pos h, Finset.card_insert_of_notMem (by simp [ha]), Nat.cast_add, Nat.cast_one, add_comm]
    · rw [ind_false h, if_neg h, zero_add]

/-! ## The constants -/

theorem half_eq : Ideal.ofBits .f32 0x3F000000#32 = ((1 / 2 : ℝ) : EReal) := by
  simp [Ideal.ofBits, Ideal.ieee, -EReal.coe_mul]
  norm_num

theorem one_eq : Ideal.ofBits .f32 0x3F800000#32 = (1 : EReal) := by
  rw [show (1 : EReal) = ((1 : ℝ) : EReal) from rfl]
  simp [Ideal.ofBits, Ideal.ieee, -EReal.coe_mul, -EReal.coe_one]
  norm_num

theorem two_eq : Ideal.ofBits .f32 0x40000000#32 = ((2 : ℝ) : EReal) := by
  simp [Ideal.ofBits, Ideal.ieee, -EReal.coe_mul]
  norm_num

theorem bot_eq : Ideal.ofBits .f32 0xFF800000#32 = (⊥ : EReal) := by
  simp [Ideal.ofBits, Ideal.ieee]

/-- The score given to what is not a box is not above the threshold. -/
theorem pad_low : ¬ Ideal.ofBits .f32 0x3D4CCCCD#32 < Ideal.ofBits .f32 0xBF800000#32 := by
  have e1 : Ideal.ofBits .f32 0xBF800000#32 = ((-1 : ℝ) : EReal) := by
    simp [Ideal.ofBits, Ideal.ieee, -EReal.coe_mul, -EReal.coe_one, -EReal.coe_neg]
    norm_num
  have e2 : ∃ r : ℝ, 0 ≤ r ∧ Ideal.ofBits .f32 0x3D4CCCCD#32 = (r : EReal) := by
    refine ⟨_, ?_, by simp [Ideal.ofBits, Ideal.ieee, -EReal.coe_mul]; rfl⟩
    positivity
  obtain ⟨r, hr, e⟩ := e2
  rw [e1, e, EReal.coe_lt_coe_iff]
  linarith

theorem count_lt_half (n : ℕ) : (n : EReal) < Ideal.ofBits .f32 0x3F000000#32 ↔ n = 0 := by
  rw [half_eq, show ((n : ℕ) : EReal) = ((n : ℝ) : EReal) from rfl, EReal.coe_lt_coe_iff]
  constructor
  · intro h
    by_contra c
    have : (1 : ℝ) ≤ n := by exact_mod_cast Nat.one_le_iff_ne_zero.mpr c
    linarith
  · rintro rfl; norm_num

theorem half_lt_ind (P : Prop) : Ideal.ofBits .f32 0x3F000000#32 < ind P ↔ P := by
  rw [half_eq]
  by_cases p : P
  · rw [ind_true p, show (1 : EReal) = ((1 : ℝ) : EReal) from rfl, EReal.coe_lt_coe_iff]
    exact iff_of_true (by norm_num) p
  · rw [ind_false p, show (0 : EReal) = ((0 : ℝ) : EReal) from rfl, EReal.coe_lt_coe_iff]
    exact iff_of_false (by norm_num) p

/-- An indicator less 2 is no longer itself. -/
theorem ind_sub_two (P : Prop) : ind P - Ideal.ofBits .f32 0x40000000#32 ≠ ind P := by
  rw [two_eq]
  by_cases p : P
  · rw [ind_true p, show (1 : EReal) = ((1 : ℝ) : EReal) from rfl, ← EReal.coe_sub, Ne, EReal.coe_eq_coe_iff]; norm_num
  · rw [ind_false p, show (0 : EReal) = ((0 : ℝ) : EReal) from rfl, ← EReal.coe_sub, Ne, EReal.coe_eq_coe_iff]; norm_num

/-- A bit as a number. -/
theorem bit_num {s : Shape} (b : IVec s 1) (i : s.Idx) : (sitofp .f32 (extui 32 b (by decide)) : FVec Ideal s .f32) i = ind (b i = 1#1) := by
  show ((((b i).setWidth 32).toInt : ℝ) : EReal) = _
  rcases BitVec.eq_zero_or_eq_one (b i) with h | h <;> rw [h]
  · rw [ind_false (by decide)]; simp
  · rw [ind_true rfl]; simp

/-! ## Products with columns -/

theorem mulCol_apply (m : Mat Ideal 512 512) (v : Mat Ideal 512 1) (i : Fin 512) :
    mulCol m v (ix2 i 0) = ∑ k : Fin 512, (m (ix2 i k) : EReal) * v (ix2 k 0) := by
  show Ideal.matmul dotCol m v (constant (Shp 512 1) .f32 0x00000000#32 : FVec Ideal (Shp 512 1) .f32) (ix2 i 0) = _
  rw [Ideal.matmul_apply₁_of dotCol (a := 1) rfl (K := 512) rfl m v _ (ix2 i 0) (fun k => ix2 i k) (fun k => ix2 k 0)
    (fun k => by funext x; fin_cases x <;> rfl) (fun k => by funext x; fin_cases x <;> rfl)]
  have z : (constant (Shp 512 1) .f32 0x00000000#32 : FVec Ideal (Shp 512 1) .f32) (ix2 i 0) = (0 : EReal) := Ideal.ofBits_zero_f32
  rw [z, zero_add]

/-- A matrix of indicators times a column of indicators counts. -/
theorem mulCol_ind (m : Mat Ideal 512 512) (v : Mat Ideal 512 1) (M : Fin 512 → Fin 512 → Prop) (V : Fin 512 → Prop)
    (hm : ∀ i k, m (ix2 i k) = ind (M i k)) (hv : ∀ k, v (ix2 k 0) = ind (V k)) (i : Fin 512) [DecidablePred fun k => M i k ∧ V k] :
    mulCol m v (ix2 i 0) = (((Finset.univ.filter fun k => M i k ∧ V k).card : ℕ) : EReal) := by
  rw [mulCol_apply]
  simp only [hm, hv, ind_mul]
  exact sum_ind _ _

end Cert.Nms

end
-- ==== Proof.Nms.lean ====
/-
  What the loops over the blocks keep: the greedy choice. A row is kept where its score is above the threshold and no
  earlier kept row's box overlaps its box.
-/
module

public import proofs.«01_k».proof.Proof.Table
public import proofs.«01_k».proof.Proof.Count
public import proofs.«01_k».proof.Proof.Order

@[expose] public section

noncomputable section

namespace Cert.Nms

open Idealize.ShloMosaic Classical

/-! ## The iteration within a block -/

section Iterate

variable (I : Fin 512 → Prop) (S : Fin 512 → Fin 512 → Prop)

/-- One step: in play, and no earlier row now kept suppresses it. -/
def stepP (C : Fin 512 → Prop) (i : Fin 512) : Prop := I i ∧ ∀ k, k < i → C k → ¬ S i k

/-- The first `n` rows no longer change. -/
def Settled (n : ℕ) (C : Fin 512 → Prop) : Prop := ∀ i : Fin 512, i.val < n → (C i ↔ stepP I S C i)

theorem Settled.step {n : ℕ} {C : Fin 512 → Prop} (h : Settled I S n C) : Settled I S (n + 1) (stepP I S C) := by
  intro i hi
  unfold stepP
  refine and_congr_right fun _ => forall_congr' fun k => forall_congr' fun hk => ?_
  have : k.val < n := by have : k.val < i.val := hk; omega
  exact imp_congr_left (h k this)

end Iterate

/-- The column is the indicator of the rows of `C`. -/
def Col (v : Mat Ideal 512 1) (C : Fin 512 → Prop) : Prop := ∀ i, v (ix2 i 0) = ind (C i)

theorem below_apply (m : Mat Ideal 512 512) (i k : Fin 512) : below m (ix2 i k) = if k < i then m (ix2 i k) else (0 : EReal) := by
  unfold below
  have hb : (cmpi .slt (iota .tc (Shp 512 512) 32 [1] (by decide)) (iota .tc (Shp 512 512) 32 [0] (by decide))) (ix2 i k)
      = BitVec.ofBool (BitVec.slt (BitVec.ofNat 32 (0 * 512 + k.val)) (BitVec.ofNat 32 (0 * 512 + i.val))) := rfl
  have hs : BitVec.slt (BitVec.ofNat 32 (0 * 512 + k.val)) (BitVec.ofNat 32 (0 * 512 + i.val)) = decide (k < i) := by
    rw [BitVec.slt_eq_decide, BitVec.toInt_ofNat', BitVec.toInt_ofNat']
    refine decide_eq_decide.mpr ?_
    rw [Int.bmod_eq_of_le (by omega) (by omega), Int.bmod_eq_of_le (by omega) (by omega), Fin.lt_def]
    omega
  have hz : (broadcast (Shp 512 512) (Scalar.ofBits .f32 0x00000000#32 : Ideal .f32)) (ix2 i k) = (0 : EReal) := Ideal.ofBits_zero_f32
  unfold select
  rw [hb, hs, hz]
  by_cases h : k < i
  · rw [if_pos h, decide_eq_true h]; rfl
  · rw [if_neg h, decide_eq_false h]; rfl

theorem below_ind {m : Mat Ideal 512 512} {S : Fin 512 → Fin 512 → Prop} (hm : ∀ i k, m (ix2 i k) = ind (S i k)) (i k : Fin 512) :
    below m (ix2 i k) = ind (k < i ∧ S i k) := by
  rw [below_apply, hm]
  by_cases h : k < i
  · rw [if_pos h]; exact ind_congr ⟨fun s => ⟨h, s⟩, fun s => s.2⟩
  · rw [if_neg h, ind_false (fun s => h s.1)]

theorem whileStep_col {m : Mat Ideal 512 512} {init cur : Mat Ideal 512 1} {S : Fin 512 → Fin 512 → Prop} {I C : Fin 512 → Prop}
    (hm : ∀ i k, m (ix2 i k) = ind (S i k)) (hI : Col init I) (hC : Col cur C) : Col (whileStep (below m) init cur) (stepP I S C) := by
  intro i
  show init (ix2 i 0) * (sitofp .f32 (extui 32 _ (by decide)) : FVec Ideal (Shp 512 1) .f32) (ix2 i 0) = _
  rw [bit_num, hI i, ind_mul]
  refine ind_congr (and_congr_right fun _ => ?_)
  refine Iff.trans (Ideal.cmp_olt_eq_one (mulCol (below m) cur (ix2 i 0)) (Ideal.ofBits .f32 0x3F000000#32)) ?_
  rw [mulCol_ind _ _ _ _ (below_ind hm) hC, count_lt_half, Finset.card_eq_zero, Finset.filter_eq_empty_iff]
  exact ⟨fun h k hk hc hs => h (Finset.mem_univ k) ⟨⟨hk, hs⟩, hc⟩, fun h k _ e => h k e.1.1 e.2 e.1.2⟩

/-- A maximum over all entries is above 0 where an entry is. -/
theorem reduceMax_pos (v : FVec Ideal ⟨3, ![1, 512, 1]⟩ .f32) (h : (⟨3, ![1, 512, 1]⟩ : Shape).Reduces [1, 2] ⟨1, ![1]⟩) (hφ : FKind.Formats .f32)
    (hacc : 0xFF800000#32 = FKind.maximumf.neutral .f32 hφ) (j : (⟨1, ![1]⟩ : Shape).Idx) (e : (⟨3, ![1, 512, 1]⟩ : Shape).Idx) (he : (0 : EReal) < v e) :
    (0 : EReal) < multiReduction .maximumf [1, 2] ⟨1, ![1]⟩ v 0xFF800000#32 h hφ hacc j := by
  have := multiReduction_maximumf_eq_fold v 0xFF800000#32 h hφ hacc j
  rw [this]
  refine (Finset.lt_fold_max _).mpr (.inr ⟨e, ?_, he⟩)
  rw [Finset.mem_filter]
  exact ⟨Finset.mem_univ _, funext fun x => by fin_cases x; exact Subsingleton.elim (α := Fin 1) _ _⟩

/-- The loop's test fails early only where nothing changed. -/
theorem eq_of_whileTest {prev cur : Mat Ideal 512 1} {t : BitVec 32} (ht : t.slt 514#32 = true) (h : ¬ whileTest prev cur t = 1#1) (i : Fin 512) :
    prev (ix2 i 0) = cur (ix2 i 0) := by
  by_contra hne
  refine h ?_
  unfold whileTest
  have h1 : Scalar.cmpi .slt t 514#32 = 1#1 := by show BitVec.ofBool (t.slt 514#32) = 1#1; rw [ht]; rfl
  rw [h1]
  have key : ∀ b : BitVec 1, b = 1#1 → Scalar.andi 1#1 b = 1#1 := by decide
  refine key _ ?_
  refine (Ideal.cmp_ogt_eq_one _ _).mpr ?_
  have z : (Scalar.ofBits .f32 0x00000000#32 : Ideal .f32) = (0 : EReal) := Ideal.ofBits_zero_f32
  rw [z]
  refine reduceMax_pos _ _ (.inl rfl) rfl _ ((Shape.reshapeEquiv (by decide : (Shp 512 1).ShapeCasts ⟨3, ![1, 512, 1]⟩)).symm (ix2 i 0)) ?_
  · unfold shapeCast
    rw [Equiv.apply_symm_apply]
    have hb : cmpf .one prev cur (ix2 i 0) = 1#1 := (Ideal.cmp_one_eq_one _ _).mpr hne
    unfold select
    rw [hb]
    show (0 : EReal) < Ideal.ofBits .f32 0x3F800000#32
    rw [one_eq]; exact zero_lt_one

theorem slt_514 (n : ℕ) (h : n < 514) : (BitVec.ofNat 32 n).slt 514#32 = true := by
  rw [BitVec.slt_eq_decide, BitVec.toInt_ofNat', decide_eq_true_eq, Int.bmod_eq_of_le (by omega) (by omega)]
  show (n : ℤ) < 514
  omega

theorem loopV_settled {m : Mat Ideal 512 512} {init : Mat Ideal 512 1} {S : Fin 512 → Fin 512 → Prop} {I : Fin 512 → Prop}
    (hm : ∀ i k, m (ix2 i k) = ind (S i k)) (hI : Col init I) : ∀ n ≤ 514, ∀ (prev cur : Mat Ideal 512 1) (C : Fin 512 → Prop), Col cur C →
      Settled I S (514 - n) C → ((∀ i, prev (ix2 i 0) = cur (ix2 i 0)) → Settled I S 512 C) →
      ∃ C', Settled I S 512 C' ∧ Col (loopV (below m) init n prev cur (BitVec.ofNat 32 (514 - n))).2.1 C' := by
  intro n
  induction n with
  | zero => intro _ prev cur C hC hs _; exact ⟨C, fun i _ => hs i (by omega), hC⟩
  | succ n ih =>
    intro hn prev cur C hC hs he
    unfold loopV
    by_cases ht : whileTest prev cur (BitVec.ofNat 32 (514 - (n + 1))) = 1#1
    · rw [if_pos ht]
      have e : Scalar.addi (BitVec.ofNat 32 (514 - (n + 1))) 1#32 = BitVec.ofNat 32 (514 - n) := by
        show BitVec.ofNat 32 (514 - (n + 1)) + 1#32 = _
        rw [← BitVec.ofNat_add]
        congr 1; omega
      rw [e]
      refine ih (by omega) cur _ (stepP I S C) (whileStep_col hm hI hC) ?_ ?_
      · have := hs.step
        rwa [show 514 - (n + 1) + 1 = 514 - n by omega] at this
      · intro h
        have hx : ∀ i, C i ↔ stepP I S C i := fun i => ind_inj (by rw [← hC i, h i, whileStep_col hm hI hC i])
        have e : C = stepP I S C := funext fun i => propext (hx i)
        rw [← e]
        exact fun i _ => hx i
    · rw [if_neg ht]
      exact ⟨C, he (eq_of_whileTest (slt_514 _ (by omega)) ht), hC⟩

/-! ## The matrix of overlaps -/

theorem col_apply (v : Mat Ideal 512 1) (i k : Fin 512) : broadcastTo (Shp 512 512) v (by decide) (ix2 i k) = v (ix2 i 0) := by
  refine congrArg v (funext fun x => Fin.ext ?_)
  fin_cases x <;> rfl

theorem row_apply (v : Mat Ideal 1 512) (i k : Fin 512) : broadcastTo (Shp 512 512) v (by decide) (ix2 i k) = v (ix2 0 k) := by
  refine congrArg v (funext fun x => Fin.ext ?_)
  fin_cases x <;> rfl

theorem supMat_apply (rx1 ry1 rx2 ry2 ra : Mat Ideal 512 1) (cx1 cy1 cx2 cy2 ca : Mat Ideal 1 512) (i k : Fin 512) (A B : Box)
    (hA : (⟨rx1 (ix2 i 0), ry1 (ix2 i 0), rx2 (ix2 i 0), ry2 (ix2 i 0)⟩ : Box) = A) (ha : ra (ix2 i 0) = A.area)
    (hB : (⟨cx1 (ix2 0 k), cy1 (ix2 0 k), cx2 (ix2 0 k), cy2 (ix2 0 k)⟩ : Box) = B) (hb : ca (ix2 0 k) = B.area) :
    supMat rx1 ry1 rx2 ry2 ra cx1 cy1 cx2 cy2 ca (ix2 i k) = ind (Overlap A B) := by
  unfold supMat
  rw [bit_num]
  refine ind_congr ((Ideal.cmp_ogt_eq_one _ (Ideal.ofBits .f32 0x3E99999A#32)).trans ?_)
  unfold Overlap iouE interE
  rw [← ha, ← hb, ← hA, ← hB]
  have z : (broadcast (Shp 512 512) (Scalar.ofBits .f32 0x00000000#32 : Ideal .f32)) (ix2 i k) = (0 : EReal) := Ideal.ofBits_zero_f32
  have hz : ∀ X : Mat Ideal 512 512, maximumf X (broadcast (Shp 512 512) (Scalar.ofBits .f32 0x00000000#32)) (ix2 i k) = max (X (ix2 i k) : EReal) 0 :=
    fun X => congrArg (max (X (ix2 i k) : EReal)) z
  have hiw : ∀ (x2 x1 : Mat Ideal 512 1) (c2 c1 : Mat Ideal 1 512),
      maximumf (subf (minimumf (broadcastTo (Shp 512 512) x2 (by decide)) (broadcastTo (Shp 512 512) c2 (by decide)))
        (maximumf (broadcastTo (Shp 512 512) x1 (by decide)) (broadcastTo (Shp 512 512) c1 (by decide)))) (broadcast (Shp 512 512) (Scalar.ofBits .f32 0x00000000#32)) (ix2 i k)
      = max (min (x2 (ix2 i 0) : EReal) (c2 (ix2 0 k)) - max (x1 (ix2 i 0) : EReal) (c1 (ix2 0 k))) 0 := fun x2 x1 c2 c1 => by
    rw [hz]
    show max (min (broadcastTo (Shp 512 512) x2 (by decide) (ix2 i k) : EReal) (broadcastTo (Shp 512 512) c2 (by decide) (ix2 i k))
      - max (broadcastTo (Shp 512 512) x1 (by decide) (ix2 i k) : EReal) (broadcastTo (Shp 512 512) c1 (by decide) (ix2 i k))) 0 = _
    rw [col_apply, col_apply, row_apply, row_apply]
  have hi : ∀ U V : Mat Ideal 512 512, mulf U V (ix2 i k) = (U (ix2 i k) : EReal) * V (ix2 i k) := fun _ _ => rfl
  have hd : ∀ (U V : Mat Ideal 512 512), divf U (maximumf (subf (addf (broadcastTo (Shp 512 512) ra (by decide)) (broadcastTo (Shp 512 512) ca (by decide))) V)
      (broadcast (Shp 512 512) (Scalar.ofBits .f32 0x3089705F#32))) (ix2 i k)
      = Ideal.div (U (ix2 i k)) (max ((ra (ix2 i 0) : EReal) + ca (ix2 0 k) - V (ix2 i k)) (Ideal.ofBits .f32 0x3089705F#32)) := fun U V => by
    show Ideal.div (U (ix2 i k)) (max ((broadcastTo (Shp 512 512) ra (by decide) (ix2 i k) : EReal) + (broadcastTo (Shp 512 512) ca (by decide) (ix2 i k) : EReal) - V (ix2 i k)) _) = _
    rw [col_apply, row_apply]; rfl
  rw [hd, hi, hiw, hiw]

/-- Whether a row is eligible, -/
def okK (a : Sorted Ideal) (p : Fin 5120) : Prop := Ideal.ofBits .f32 0x3D4CCCCD#32 < a.key (pt (posOf p))

/-- and whether two rows overlap. -/
def supK (a : Sorted Ideal) (p q : Fin 5120) : Prop := Overlap (boxAt a (posOf p)) (boxAt a (posOf q))

theorem rowBlk_tbl (a : Sorted Ideal) (j : Fin 10) (i : Fin 512) (c : ℕ) (hc : c < 6) (h : (Shp 512 8).Slices ![0, c] (Shp 512 1)) :
    extractStridedSlice (Shp 512 1) ![0, c] (rowBlk (tblOf a) j) h (ix2 i 0) = rowE a (posOf (rowAt j i)) c := by
  rw [slice_apply]
  unfold rowBlk
  rw [blk_apply, ← tblOf_apply a (rowAt j i) ⟨c, by omega⟩ hc]
  exact congrArg (tblOf a) (congrArg₂ ix2 (Fin.ext (by simp [rowAt])) (Fin.ext (by simp)))

theorem colBlk_tbl (a : Sorted Ideal) (j : Fin 10) (i : Fin 512) (c : ℕ) (hc : c < 5) (h : (Shp 8 512).Slices ![c, 0] (Shp 1 512)) :
    extractStridedSlice (Shp 1 512) ![c, 0] (colBlk (tblOf' a) j) h (ix2 0 i) = rowE a (posOf (rowAt j i)) c := by
  rw [slice_apply]
  unfold colBlk
  rw [blk_apply, ← tblOf'_apply a (rowAt j i) ⟨c, by omega⟩ hc]
  exact congrArg (tblOf' a) (congrArg₂ ix2 (Fin.ext (by simp)) (Fin.ext (by simp [rowAt])))

theorem scoreBlk_tbl (a : Sorted Ideal) (j : Fin 10) (i : Fin 512) : scoreBlk (tblOf a) j (ix2 i 0) = a.key (pt (posOf (rowAt j i))) := by
  unfold scoreBlk
  rw [blk_apply]
  refine Eq.trans (congrArg (tblOf a) (congrArg₂ ix2 (Fin.ext (by simp [rowAt])) (Fin.ext (by simp)))) (tblOf_apply a (rowAt j i) 5 (by decide))

theorem supOf_tbl (a : Sorted Ideal) (j j' : Fin 10) (i k : Fin 512) :
    supOf (rowBlk (tblOf a) j) (colBlk (tblOf' a) j') (ix2 i k) = ind (supK a (rowAt j i) (rowAt j' k)) := by
  unfold supOf supK
  refine supMat_apply _ _ _ _ _ _ _ _ _ _ i k _ _ ?_ ?_ ?_ ?_
  · rw [rowBlk_tbl _ _ _ _ (by decide), rowBlk_tbl _ _ _ _ (by decide), rowBlk_tbl _ _ _ _ (by decide), rowBlk_tbl _ _ _ _ (by decide)]; rfl
  · rw [rowBlk_tbl _ _ _ _ (by decide)]; rfl
  · rw [colBlk_tbl _ _ _ _ (by decide), colBlk_tbl _ _ _ _ (by decide), colBlk_tbl _ _ _ _ (by decide), colBlk_tbl _ _ _ _ (by decide)]; rfl
  · rw [colBlk_tbl _ _ _ _ (by decide)]; rfl

/-! ## Across the blocks -/

theorem suppV_count (a : Sorted Ideal) (K : Mat Ideal 5120 1) (j : Fin 10) (i : Fin 512) (L : List (Fin 10)) (P : Fin 10 → Fin 512 → Prop)
    (hL : ∀ j' ∈ L, Col (keepBlk K j') (P j')) : ∀ (s : Mat Ideal 512 1) (n : ℕ), s (ix2 i 0) = (n : EReal) →
    ∃ n' : ℕ, suppV (tblOf' a) K (rowBlk (tblOf a) j) L s (ix2 i 0) = (n' : EReal)
      ∧ (n' = 0 ↔ n = 0 ∧ ∀ j' ∈ L, ∀ k, P j' k → ¬ supK a (rowAt j i) (rowAt j' k)) := by
  induction L with
  | nil => intro s n h; exact ⟨n, h, by simp⟩
  | cons j' L ih =>
    intro s n h
    have hj := mulCol_ind _ _ _ _ (supOf_tbl a j j') (hL j' List.mem_cons_self) i
    obtain ⟨n', e, he⟩ := ih (fun x hx => hL x (List.mem_cons_of_mem _ hx)) (addf s (mulCol (supOf (rowBlk (tblOf a) j) (colBlk (tblOf' a) j')) (keepBlk K j')))
      _ (by show (s (ix2 i 0) : EReal) + mulCol (supOf (rowBlk (tblOf a) j) (colBlk (tblOf' a) j')) (keepBlk K j') (ix2 i 0) = _
            rw [hj, h, ← Nat.cast_add])
    refine ⟨n', e, he.trans ?_⟩
    rw [Nat.add_eq_zero_iff, Finset.card_eq_zero, Finset.filter_eq_empty_iff, List.forall_mem_cons, and_assoc]
    refine and_congr_right fun _ => and_congr_left fun _ => ?_
    exact ⟨fun h k hp hs => h (Finset.mem_univ k) ⟨hs, hp⟩, fun h k _ e => h k e.2 e.1⟩

theorem initV_col (a : Sorted Ideal) (K : Mat Ideal 5120 1) (j : Fin 10) (P : Fin 10 → Fin 512 → Prop)
    (hP : ∀ j' : Fin 10, j'.val < j.val → Col (keepBlk K j') (P j')) :
    Col (initV (tblOf a) (tblOf' a) j K) (fun i => okK a (rowAt j i) ∧ ∀ j' : Fin 10, j'.val < j.val → ∀ k, P j' k → ¬ supK a (rowAt j i) (rowAt j' k)) := by
  intro i
  unfold initV initOf
  rw [bit_num]
  obtain ⟨n, e, he⟩ := suppV_count a K j i ((List.finRange 10).take j.val) P (fun j' h => hP j' ((mem_take_finRange _ _).mp h)) zeroCol 0
    (by rw [Nat.cast_zero]; exact Ideal.ofBits_zero_f32)
  have key : ∀ b c : BitVec 1, b &&& c = 1#1 ↔ b = 1#1 ∧ c = 1#1 := by decide
  refine ind_congr ((key _ _).trans (and_congr ((Ideal.cmp_ogt_eq_one _ (Ideal.ofBits .f32 0x3D4CCCCD#32)).trans ?_)
    ((Ideal.cmp_olt_eq_one _ (Ideal.ofBits .f32 0x3F000000#32)).trans ?_)))
  · rw [scoreBlk_tbl]; rfl
  · rw [e, count_lt_half, he]
    simp only [true_and, mem_take_finRange]

theorem keptV_col (a : Sorted Ideal) (K : Mat Ideal 5120 1) (j : Fin 10) (P : Fin 10 → Fin 512 → Prop)
    (hP : ∀ j' : Fin 10, j'.val < j.val → Col (keepBlk K j') (P j')) :
    ∃ C : Fin 512 → Prop, Col (keptV (tblOf a) (tblOf' a) j K) C ∧ ∀ i, C i ↔ (okK a (rowAt j i)
      ∧ ∀ j' : Fin 10, j'.val < j.val → ∀ k, P j' k → ¬ supK a (rowAt j i) (rowAt j' k)) ∧ ∀ k, k < i → C k → ¬ supK a (rowAt j i) (rowAt j k) := by
  have hI := initV_col a K j P hP
  obtain ⟨C, hs, hC⟩ := loopV_settled (supOf_tbl a j j) hI 514 (le_refl _) (prevOf (initV (tblOf a) (tblOf' a) j K)) _ _ hI
    (fun i h => absurd h (by omega))
    (fun h => by
      have e := h 0
      have e' : (initV (tblOf a) (tblOf' a) j K (ix2 0 0) : EReal) - Ideal.ofBits .f32 0x40000000#32 = initV (tblOf a) (tblOf' a) j K (ix2 0 0) := e
      rw [hI 0] at e'
      exact absurd e' (ind_sub_two _))
  exact ⟨C, hC, fun i => hs i i.isLt⟩

/-- The column's blocks are each what the loop of the block makes of the column. -/
theorem keepBlk_fixed {X : Mat Ideal 5120 8} {Y : Mat Ideal 8 5120} (K : Mat Ideal 5120 1) : ∀ n ≤ 10, ∀ i : Fin 10, i.val < n →
    keepBlk (keepsV X Y ((List.finRange 10).take n) K) i = keptV X Y i (keepsV X Y ((List.finRange 10).take n) K) := by
  intro n
  induction n with
  | zero => intro _ i h; exact absurd h (Nat.not_lt_zero _)
  | succ n ih =>
    intro hn i hi
    have e : keepsV X Y ((List.finRange 10).take (n + 1)) K = keepV X Y ⟨n, hn⟩ (keepsV X Y ((List.finRange 10).take n) K) := keepsV_succ X Y ⟨n, hn⟩ K
    have hk : keptV X Y i (keepV X Y ⟨n, hn⟩ (keepsV X Y ((List.finRange 10).take n) K)) = keptV X Y i (keepsV X Y ((List.finRange 10).take n) K) := by
      refine keptV_congr (fun _ _ _ => rfl) (fun _ _ _ => rfl) i fun k hk => ?_
      rw [keepBlk_keepV, if_neg (fun e => by rw [e] at hk; simp only at hk; omega)]
    rw [e, hk, keepBlk_keepV]
    by_cases h : i = ⟨n, hn⟩
    · rw [if_pos h, h]
    · rw [if_neg h]
      exact ih (by omega) i (by have : i.val ≠ n := fun e => h (Fin.ext e); omega)

theorem keepBlk_at (K : Mat Ideal 5120 1) (j : Fin 10) (i : Fin 512) : keepBlk K j (ix2 i 0) = K (ix2 (rowAt j i) 0) := by
  unfold keepBlk
  rw [blk_apply]
  exact congrArg K (congrArg₂ ix2 (Fin.ext (by simp [rowAt])) (Fin.ext (by simp)))

/-- The rows kept are the greedy choice. -/
theorem keepOf_greedy (a : Sorted Ideal) : ∃ K : Fin 5120 → Prop, (∀ p, keepOf a (ix2 p 0) = ind (K p)) ∧ Greedy (okK a) (supK a) K := by
  have hfix : ∀ j, keepBlk (keepOf a) j = keptV (tblOf a) (tblOf' a) j (keepOf a) := fun j => by
    have := keepBlk_fixed (X := tblOf a) (Y := tblOf' a) (zeros 5120 1) 10 (le_refl _) j j.isLt
    rwa [List.take_of_length_le (by simp)] at this
  have hb : ∀ n, ∀ j : Fin 10, j.val = n → ∃ C : Fin 512 → Prop, Col (keepBlk (keepOf a) j) C := by
    intro n
    induction n using Nat.strong_induction_on with
    | _ n ih =>
      intro j hj
      have : ∀ j' : Fin 10, ∃ P : Fin 512 → Prop, j'.val < j.val → Col (keepBlk (keepOf a) j') P := fun j' => by
        by_cases h : j'.val < j.val
        · obtain ⟨P, hP⟩ := ih j'.val (by omega) j' rfl
          exact ⟨P, fun _ => hP⟩
        · exact ⟨fun _ => True, fun h' => absurd h' h⟩
      choose P hP using this
      obtain ⟨C, hC, _⟩ := keptV_col a (keepOf a) j P hP
      exact ⟨C, by rw [hfix]; exact hC⟩
  choose P hP using fun j : Fin 10 => hb j.val j rfl
  refine ⟨fun p => P (blkOf p) (locOf p), fun p => ?_, fun p => ?_⟩
  · rw [← hP (blkOf p) (locOf p), keepBlk_at, rowAt_of]
  · obtain ⟨C, hC, hg⟩ := keptV_col a (keepOf a) (blkOf p) P (fun j' _ => hP j')
    have e : ∀ i, P (blkOf p) i ↔ C i := fun i => ind_inj (by rw [← hP, hfix, hC])
    show P (blkOf p) (locOf p) ↔ _
    rw [e, hg, rowAt_of, and_assoc]
    refine and_congr_right fun _ => ⟨fun h q hq hk => ?_, fun h => ⟨fun j' hj k hk => ?_, fun k hk hc => ?_⟩⟩
    · have hq' : q.val < p.val := hq
      by_cases hj : (blkOf q).val < (blkOf p).val
      · have := h.1 (blkOf q) hj (locOf q) hk
        rwa [rowAt_of] at this
      · have hj' : q.val / 512 = p.val / 512 := by
          have : ¬ q.val / 512 < p.val / 512 := hj
          omega
        have hjj : blkOf q = blkOf p := Fin.ext hj'
        have hk' : P (blkOf p) (locOf q) := hjj ▸ hk
        have := h.2 (locOf q) (by show q.val % 512 < p.val % 512; omega) ((e _).mp hk')
        rwa [← hjj, rowAt_of] at this
    · refine h (rowAt j' k) ?_ (by show P (blkOf (rowAt j' k)) (locOf (rowAt j' k)); rw [blkOf_rowAt, locOf_rowAt]; exact hk)
      have : j'.val < p.val / 512 := hj
      show 512 * j'.val + k.val < p.val
      omega
    · refine h (rowAt (blkOf p) k) ?_ (by show P (blkOf (rowAt (blkOf p) k)) (locOf (rowAt (blkOf p) k)); rw [blkOf_rowAt, locOf_rowAt]; exact (e _).mpr hc)
      have : k.val < p.val % 512 := hk
      show 512 * (p.val / 512) + k.val < p.val
      omega

end Cert.Nms

end
-- ==== Proof.Top.lean ====
/-
  The results over the extended reals: a row of the first result is the table's row where it is kept and zero where not, and
  row `r` of the second is the `r`-th kept row, or zero where there are not so many.
-/
module

public import proofs.«01_k».proof.Proof.Nms

@[expose] public section

noncomputable section

namespace Cert.Nms

open Idealize.ShloMosaic Classical

/-! ## Counting below a bound -/

/-- How many of the first `n` satisfy `K`. -/
def cnt {N : ℕ} (K : Fin N → Prop) (n : ℕ) : ℕ := (Finset.univ.filter fun q : Fin N => q.val < n ∧ K q).card

theorem cnt_zero {N : ℕ} (K : Fin N → Prop) : cnt K 0 = 0 := by
  unfold cnt
  rw [Finset.card_eq_zero, Finset.filter_eq_empty_iff]
  exact fun q _ h => absurd h.1 (Nat.not_lt_zero _)

theorem cnt_succ {N : ℕ} (K : Fin N → Prop) (n : ℕ) (h : n < N) : cnt K (n + 1) = cnt K n + if K ⟨n, h⟩ then 1 else 0 := by
  unfold cnt
  by_cases hK : K ⟨n, h⟩
  · rw [if_pos hK, ← Finset.card_insert_of_notMem (a := (⟨n, h⟩ : Fin N)) (by simp)]
    refine congrArg Finset.card (Finset.ext fun q => ?_)
    simp only [Finset.mem_filter, Finset.mem_univ, true_and, Finset.mem_insert]
    constructor
    · rintro ⟨hq, k⟩
      by_cases e : q.val = n
      · exact .inl (Fin.ext e)
      · exact .inr ⟨by omega, k⟩
    · rintro (rfl | ⟨hq, k⟩)
      · exact ⟨by simp, hK⟩
      · exact ⟨by omega, k⟩
  · rw [if_neg hK]
    refine (congrArg Finset.card (Finset.ext fun q => ?_)).trans (Nat.add_zero _).symm
    simp only [Finset.mem_filter, Finset.mem_univ, true_and]
    constructor
    · rintro ⟨hq, k⟩
      refine ⟨?_, k⟩
      have : q.val ≠ n := fun e => hK (by have : q = ⟨n, h⟩ := Fin.ext e; rwa [← this])
      omega
    · rintro ⟨hq, k⟩
      exact ⟨by omega, k⟩

theorem cnt_block (K : Fin 5120 → Prop) (j : Fin 10) (m : ℕ) (hm : m ≤ 512) :
    cnt K (512 * j.val + m) = cnt K (512 * j.val) + cnt (fun k => K (rowAt j k)) m := by
  induction m with
  | zero => rw [cnt_zero, Nat.add_zero, Nat.add_zero]
  | succ m ih =>
    rw [cnt_succ _ m (by omega), ← Nat.add_assoc (512 * j.val), cnt_succ K (512 * j.val + m) (by omega), ih (by omega), Nat.add_assoc]
    rfl

theorem isRth_cnt {N : ℕ} (K : Fin N → Prop) (r : ℕ) (p : Fin N) : IsRth K r p ↔ K p ∧ cnt K p.val = r := by
  unfold IsRth cnt
  refine and_congr_right fun _ => ?_
  refine iff_of_eq (congrArg (· = r) (congrArg Finset.card ?_))
  ext q
  simp only [Finset.mem_filter, Finset.mem_univ, true_and, Fin.lt_def]

/-! ## A block's selection -/

theorem ltri_apply (i k : Fin 512) : (ltri : Mat Ideal 512 512) (ix2 i k) = ind (k ≤ i) := by
  unfold ltri
  rw [bit_num]
  refine ind_congr ?_
  show BitVec.ofBool (BitVec.sle (BitVec.ofNat 32 (0 * 512 + k.val)) (BitVec.ofNat 32 (0 * 512 + i.val))) = 1#1 ↔ _
  have hs : BitVec.sle (BitVec.ofNat 32 (0 * 512 + k.val)) (BitVec.ofNat 32 (0 * 512 + i.val)) = decide (k ≤ i) := by
    rw [BitVec.sle_eq_decide, BitVec.toInt_ofNat', BitVec.toInt_ofNat']
    refine decide_eq_decide.mpr ?_
    rw [Int.bmod_eq_of_le (by omega) (by omega), Int.bmod_eq_of_le (by omega) (by omega), Fin.le_def]
    omega
  rw [hs]
  by_cases h : k ≤ i
  · rw [decide_eq_true h]; exact iff_of_true rfl h
  · rw [decide_eq_false h]; exact iff_of_false (by decide) h

theorem kf_apply (r : Fin 16) : (kf : Mat Ideal 1 16) (ix2 0 r) = ((r.val + 1 : ℕ) : EReal) := by
  show ((((BitVec.ofNat 32 (0 * 16 + r.val) + 1#32).toInt : ℝ)) : EReal) = _
  have : (BitVec.ofNat 32 (0 * 16 + r.val) + 1#32).toInt = ((r.val + 1 : ℕ) : ℤ) := by
    rw [← BitVec.ofNat_add, BitVec.toInt_ofNat', Int.bmod_eq_of_le (by omega) (by omega)]
    omega
  rw [this, Int.cast_natCast]; rfl

theorem natE_inj (m n : ℕ) : ((m : ℕ) : EReal) = ((n : ℕ) : EReal) ↔ m = n := by
  rw [show ((m : ℕ) : EReal) = ((m : ℝ) : EReal) from rfl, show ((n : ℕ) : EReal) = ((n : ℝ) : EReal) from rfl, EReal.coe_eq_coe_iff, Nat.cast_inj]

theorem wide_apply {α : Type} (v : (Shp 512 1).Idx → α) (i : Fin 512) (r : Fin 16) : broadcastTo (Shp 512 16) v (by decide) (ix2 i r) = v (ix2 i 0) := by
  refine congrArg v (funext fun x => Fin.ext ?_)
  fin_cases x <;> rfl

theorem kfs_apply (v : Mat Ideal 1 16) (i : Fin 512) (r : Fin 16) : broadcastTo (Shp 512 16) v (by decide) (ix2 i r) = v (ix2 0 r) := by
  refine congrArg v (funext fun x => Fin.ext ?_)
  fin_cases x <;> rfl

theorem selOf_apply (kj : Mat Ideal 512 1) (C : Fin 512 → Prop) (hC : Col kj C) (n : ℕ) (carry : Ideal .f32) (hc : carry = ((n : ℕ) : EReal))
    (i : Fin 512) (r : Fin 16) : selOf carry kj (ix2 i r) = ind (C i ∧ n + cnt C i.val = r.val) := by
  unfold selOf
  rw [bit_num]
  have key : ∀ b c : BitVec 1, b &&& c = 1#1 ↔ b = 1#1 ∧ c = 1#1 := by decide
  have hcount : mulCol ltri kj (ix2 i 0) = ((cnt C (i.val + 1) : ℕ) : EReal) := by
    rw [mulCol_ind _ _ _ _ ltri_apply hC]
    unfold cnt
    congr 2
    ext k
    simp only [Finset.mem_filter, Finset.mem_univ, true_and, Fin.le_def, Nat.lt_succ_iff]
  refine ind_congr ((key _ _).trans ?_)
  rw [and_comm]
  have h1 : broadcastTo (Shp 512 16) (cmpf .ogt kj (broadcast (Shp 512 1) (Scalar.ofBits .f32 0x3F000000#32))) (by decide) (ix2 i r) = 1#1 ↔ C i := by
    rw [wide_apply]
    refine (Ideal.cmp_ogt_eq_one _ (Ideal.ofBits .f32 0x3F000000#32)).trans ?_
    rw [hC i, half_lt_ind]
  refine (and_congr_left' h1).trans (and_congr_right fun hCi => ?_)
  refine (Ideal.cmp_oeq_eq_one _ _).trans ?_
  rw [wide_apply, kfs_apply, kf_apply]
  have e : addf (mulCol ltri kj) (broadcast (Shp 512 1) carry) (ix2 i 0) = ((cnt C (i.val + 1) + n : ℕ) : EReal) := by
    show (mulCol ltri kj (ix2 i 0) : EReal) + carry = _
    rw [hcount, hc, ← Nat.cast_add]
  rw [e, natE_inj, cnt_succ _ _ i.isLt, if_pos hCi]
  omega

theorem accOf_apply (acc : Mat Ideal 16 8) (sel : Mat Ideal 512 16) (dj : Mat Ideal 512 8) (r : Fin 16) (c : Fin 8) :
    accOf acc sel dj (ix2 r c) = (acc (ix2 r c) : EReal) + ∑ k : Fin 512, (sel (ix2 k r) : EReal) * dj (ix2 k c) := by
  unfold accOf
  rw [show shapeCast (Shp 512 8) dj (by decide) = dj from same_eq dj]
  refine congrArg ((acc (ix2 r c) : EReal) + ·) ?_
  show Ideal.matmul dotSel (transpose (Shp 16 512) [1, 0] sel (by decide)) dj (constant (Shp 16 8) .f32 0x00000000#32 : FVec Ideal (Shp 16 8) .f32) (ix2 r c) = _
  rw [Ideal.matmul_apply₁_of dotSel (a := 1) rfl (K := 512) rfl _ dj _ (ix2 r c) (fun k => ix2 r k) (fun k => ix2 k c)
    (fun k => by funext x; fin_cases x <;> rfl) (fun k => by funext x; fin_cases x <;> rfl)]
  have z : (constant (Shp 16 8) .f32 0x00000000#32 : FVec Ideal (Shp 16 8) .f32) (ix2 r c) = (0 : EReal) := Ideal.ofBits_zero_f32
  rw [z, zero_add]
  exact Finset.sum_congr rfl fun k _ => congrArg (· * _) (transpose_apply sel _ r k)

theorem ix2_col_bij : Function.Bijective (fun k : Fin 512 => (ix2 k 0 : (Shp 512 1).Idx)) := by
  constructor
  · intro a b h
    exact congrFun h 0
  · intro x
    exact ⟨x 0, ((eq_ix2 x).trans (congrArg (ix2 (x 0)) (Subsingleton.elim (α := Fin 1) _ _))).symm⟩

theorem reduceAdd_col (v : Mat Ideal 512 1) (hs : (Shp 512 1).ShapeCasts ⟨3, ![1, 512, 1]⟩) (h : (⟨3, ![1, 512, 1]⟩ : Shape).Reduces [1, 2] ⟨1, ![1]⟩)
    (hφ : FKind.Formats .f32) (hacc : 0x00000000#32 = FKind.add.neutral .f32 hφ) (j : (⟨1, ![1]⟩ : Shape).Idx) :
    multiReduction .add [1, 2] ⟨1, ![1]⟩ (shapeCast ⟨3, ![1, 512, 1]⟩ v hs) 0x00000000#32 h hφ hacc j = ∑ k : Fin 512, (v (ix2 k 0) : EReal) := by
  rw [Ideal.multiReduction_add_total _ _ h (fun b => by fin_cases b; rfl) hφ hacc j]
  refine ((Shape.reshapeEquiv hs).sum_comp (fun x => (v x : EReal))).trans ?_
  exact (ix2_col_bij.sum_comp (fun x => (v x : EReal))).symm

theorem carryOf_apply (kj : Mat Ideal 512 1) (C : Fin 512 → Prop) (hC : Col kj C) (n : ℕ) (carry : Ideal .f32) (hc : carry = ((n : ℕ) : EReal)) :
    carryOf carry kj = ((n + cnt C 512 : ℕ) : EReal) := by
  have e : carryOf carry kj = (carry : EReal) + ∑ k : Fin 512, (kj (ix2 k 0) : EReal) := congrArg ((carry : EReal) + ·) (reduceAdd_col kj (by decide) (by decide) (.inl rfl) rfl _)
  rw [e, hc, Finset.sum_congr rfl (fun k _ => hC k), sum_ind, ← Nat.cast_add]
  unfold cnt
  congr 4
  ext k
  exact ⟨fun h => ⟨k.isLt, h⟩, fun h => h.2⟩

/-! ## The second result -/

/-- What row `r` of the second result holds after the blocks before `n`. -/
def TopAt (K : Fin 5120 → Prop) (D : Mat Ideal 5120 8) (n : ℕ) (r : Fin 16) (c : Fin 8) (v : EReal) : Prop :=
  (∀ p, p.val < 512 * n → IsRth K r.val p → v = D (ix2 p c)) ∧ ((∀ p, p.val < 512 * n → ¬ IsRth K r.val p) → v = 0)

theorem rowBlk_at (D : Mat Ideal 5120 8) (j : Fin 10) (i : Fin 512) (c : Fin 8) : rowBlk D j (ix2 i c) = D (ix2 (rowAt j i) c) := by
  unfold rowBlk
  rw [blk_apply]
  exact congrArg D (congrArg₂ ix2 (Fin.ext (by simp [rowAt])) (Fin.ext (by simp)))

theorem isRth_unique {N : ℕ} {K : Fin N → Prop} {r : ℕ} {p q : Fin N} (hp : IsRth K r p) (hq : IsRth K r q) : p = q := by
  have key : ∀ {p q : Fin N}, IsRth K r p → IsRth K r q → ¬ p < q := fun {p q} hp hq h => by
    rw [isRth_cnt] at hp hq
    have h1 := cnt_succ K p.val p.isLt
    rw [if_pos hp.1] at h1
    have h2 : cnt K (p.val + 1) ≤ cnt K q.val := Finset.card_le_card fun x hx => by
      simp only [Finset.mem_filter, Finset.mem_univ, true_and] at hx ⊢
      have : p.val < q.val := h
      exact ⟨by omega, hx.2⟩
    omega
  exact le_antisymm (not_lt.mp (key hq hp)) (not_lt.mp (key hp hq))

theorem accOf_top (K : Fin 5120 → Prop) (D : Mat Ideal 5120 8) (Kc : Mat Ideal 5120 1) (hK : ∀ p, Kc (ix2 p 0) = ind (K p)) (j : Fin 10)
    (carry : Ideal .f32) (hc : carry = ((cnt K (512 * j.val) : ℕ) : EReal)) (acc : Mat Ideal 16 8) (r : Fin 16) (c : Fin 8)
    (ha : TopAt K D j.val r c (acc (ix2 r c))) :
    TopAt K D (j.val + 1) r c (accOf acc (selOf carry (keepBlk Kc j)) (rowBlk D j) (ix2 r c)) := by
  have hC : Col (keepBlk Kc j) (fun i => K (rowAt j i)) := fun i => by rw [keepBlk_at, hK]
  have hsel : ∀ k, selOf carry (keepBlk Kc j) (ix2 k r) = ind (IsRth K r.val (rowAt j k)) := fun k => by
    rw [selOf_apply _ _ hC _ _ hc]
    refine ind_congr (Iff.trans ?_ (isRth_cnt K r.val (rowAt j k)).symm)
    rw [← cnt_block K j k.val (by omega)]; rfl
  rw [accOf_apply]
  have hin : ∀ p : Fin 5120, p.val < 512 * (j.val + 1) → ¬ p.val < 512 * j.val → rowAt j (locOf p) = p := fun p h h' =>
    Fin.ext (by show 512 * j.val + p.val % 512 = p.val; omega)
  by_cases hex : ∃ k, IsRth K r.val (rowAt j k)
  · obtain ⟨k, hk⟩ := hex
    have hacc : (acc (ix2 r c) : EReal) = 0 := ha.2 fun p hp h => by
      have := congrArg Fin.val (isRth_unique hk h)
      simp only [rowAt] at this
      omega
    have hs : ∑ k' : Fin 512, (selOf carry (keepBlk Kc j) (ix2 k' r) : EReal) * rowBlk D j (ix2 k' c) = D (ix2 (rowAt j k) c) := by
      rw [Finset.sum_eq_single k]
      · rw [hsel, ind_true hk, one_mul, rowBlk_at]
      · intro b _ hb
        rw [hsel, ind_false, zero_mul]
        intro h
        have := congrArg Fin.val (isRth_unique hk h)
        simp only [rowAt] at this
        exact hb (Fin.ext (by omega))
      · exact fun h => absurd (Finset.mem_univ _) h
    rw [hacc, hs, zero_add]
    refine ⟨fun p _ h => by rw [isRth_unique h hk], fun h => absurd hk (h _ (by show 512 * j.val + k.val < _; omega))⟩
  · have hs : ∑ k' : Fin 512, (selOf carry (keepBlk Kc j) (ix2 k' r) : EReal) * rowBlk D j (ix2 k' c) = 0 :=
      Finset.sum_eq_zero fun k _ => by rw [hsel, ind_false (fun h => hex ⟨k, h⟩), zero_mul]
    rw [hs, add_zero]
    refine ⟨fun p hp h => ?_, fun h => ha.2 fun p hp => h p (by omega)⟩
    by_cases hp' : p.val < 512 * j.val
    · exact ha.1 p hp' h
    · exact absurd ⟨locOf p, by rw [hin p hp hp']; exact h⟩ hex

theorem topV_top (K : Fin 5120 → Prop) (D : Mat Ideal 5120 8) (Kc : Mat Ideal 5120 1) (hK : ∀ p, Kc (ix2 p 0) = ind (K p)) (r : Fin 16) (c : Fin 8) :
    ∀ n ≤ 10, ∀ (carry : Ideal .f32) (acc : Mat Ideal 16 8), carry = ((cnt K (512 * (10 - n)) : ℕ) : EReal) → TopAt K D (10 - n) r c (acc (ix2 r c)) →
      TopAt K D 10 r c (topV Kc D ((List.finRange 10).drop (10 - n)) carry acc (ix2 r c)) := by
  intro n
  induction n with
  | zero =>
    intro _ carry acc _ ha
    rw [List.drop_of_length_le (by simp)]
    exact ha
  | succ n ih =>
    intro hn carry acc hc ha
    have hj : 10 - (n + 1) < 10 := by omega
    rw [List.drop_eq_getElem_cons (by simp; omega), List.getElem_finRange]
    have hC : Col (keepBlk Kc ⟨10 - (n + 1), hj⟩) (fun i => K (rowAt ⟨10 - (n + 1), hj⟩ i)) := fun i => by rw [keepBlk_at, hK]
    have e : 10 - (n + 1) + 1 = 10 - n := by omega
    rw [e]
    refine ih (by omega) _ _ ?_ ?_
    · have h1 := carryOf_apply _ _ hC _ _ hc
      have h2 := cnt_block K ⟨10 - (n + 1), hj⟩ 512 (le_refl _)
      refine h1.trans (congrArg Nat.cast ?_)
      rw [← e, Nat.mul_add, Nat.mul_one]
      exact h2.symm
    · have := accOf_top K D Kc hK ⟨10 - (n + 1), hj⟩ carry hc acc r c ha
      rw [← e]
      exact this

/-- The rows kept, and the results from them. -/
theorem out_values (a : Sorted Ideal) : ∃ K : Fin 5120 → Prop, Greedy (okK a) (supK a) K
    ∧ (∀ p (c : Fin 8), c.val < 5 → outD a (ix2 p c) = (rowE a (posOf p) (if c.val < 4 then c.val else 5)) * ind (K p))
    ∧ ∀ (r : Fin 16) (c : Fin 8), (∀ p, IsRth K r.val p → outT a (ix2 r c) = outD a (ix2 p c)) ∧ ((∀ p, ¬ IsRth K r.val p) → outT a (ix2 r c) = (0 : EReal)) := by
  obtain ⟨K, hK, hg⟩ := keepOf_greedy a
  refine ⟨K, hg, fun p c hc => ?_, fun r c => ?_⟩
  · unfold outD
    rw [detsOf_apply, hK]
    refine congrArg (· * ind (K p)) ?_
    by_cases h : c.val < 4
    · rw [if_pos h, if_pos h]
      exact tblOf_apply a p c (by omega)
    · rw [if_neg h, if_neg h, if_pos (by omega)]
      exact tblOf_apply a p 5 (by decide)
  · have := topV_top K (outD a) (keepOf a) hK r c 10 (le_refl _) (Scalar.ofBits .f32 0x00000000#32) (broadcast (Shp 16 8) (Scalar.ofBits .f32 0x00000000#32))
      (by rw [cnt_zero, Nat.cast_zero]; exact Ideal.ofBits_zero_f32) ⟨fun p hp => absurd hp (Nat.not_lt_zero _), fun _ => Ideal.ofBits_zero_f32⟩
    exact ⟨fun p h => this.1 p (by omega) h, fun h => this.2 fun p _ => h p⟩

end Cert.Nms

end
-- ==== Proof.Inputs.lean ====
/-
  What the lines before the kernel make of the arguments: the scores, padded with −1, and the four columns of the boxes,
  padded with 0, each in row-major order.
-/
module

public import proofs.«01_k».proof.Proof.RunI
public import proofs.«01_k».proof.Proof.Reads

@[expose] public section

noncomputable section

namespace Cert.KernelIdeal.Own

open Cert.KernelIdeal.Gen Cert.Nms
open Idealize.ShloMosaic Idealize.ShloMosaic.StableHlo
open Idealize.ShloMosaic.TcCoe Idealize.ShloMosaic.Tactic
open Idealize.ShloMosaic.Pipeline (Window)

variable {F : FTy → Type} [FloatOps F] (m : (ℓ : Loc nD τ sig) → Buf (Elt F) ℓ)

/-- An array padded and laid out in rows. -/
theorem padded_apply {α : Type} (x : S5000.Idx → α) (y : S3192.Idx → α) (h : Shape.Concatenates [S5000, S3192] S8192 0) (h' : S8192.ShapeCasts S64x128)
    (p : Fin (2 ^ 13)) : shapeCast S64x128 (concatenate S8192 0 [⟨S5000, x⟩, ⟨S3192, y⟩] h) h' (pt p)
      = if hp : p.val < 5000 then x (ix1 ⟨p.val, hp⟩) else y (ix1 ⟨p.val - 5000, by omega⟩) := by
  have hp' : p.val < 8192 := p.isLt
  rw [shapeCast_apply _ h' (pt p) (ix1 ⟨p.val, hp'⟩) (by
    rw [Shape.rowMajor_val_one, Shape.rowMajor_val_two]
    show p.val = p.val / 128 * 128 + p.val % 128
    omega)]
  by_cases hp : p.val < 5000
  · rw [dif_pos hp]
    exact concatenate_apply_piece (t := S8192) 0 [⟨S5000, x⟩, ⟨S3192, y⟩] h _ 0 (by simp) S5000 x rfl rfl 0 (by simp) (ix1 ⟨p.val, hp⟩)
      (fun b hb => absurd (Subsingleton.elim (α := Fin 1) _ _) hb) (by show 0 + p.val = p.val; omega)
  · rw [dif_neg hp]
    exact concatenate_apply_piece (t := S8192) 0 [⟨S5000, x⟩, ⟨S3192, y⟩] h _ 1 (by simp) S3192 y rfl rfl 5000 (by simp) (ix1 ⟨p.val - 5000, by omega⟩)
      (fun b hb => absurd (Subsingleton.elim (α := Fin 1) _ _) hb) (by show 5000 + (p.val - 5000) = p.val; omega)

/-- The kernel's blocks are the whole arrays. -/
theorem read_0 (X) : (win0_0.blk t0_0).view.read (Elt F) X = X := by
  funext j
  refine congrArg X (funext fun a => Fin.ext ?_)
  exact Pipeline.Window.rect_emb_val_of_index_zero win0_0 t0_0 a (by revert a; decide +kernel) j
theorem read_1 (X) : (win0_1.blk t0_0).view.read (Elt F) X = X := by
  funext j
  refine congrArg X (funext fun a => Fin.ext ?_)
  exact Pipeline.Window.rect_emb_val_of_index_zero win0_1 t0_0 a (by revert a; decide +kernel) j
theorem read_2 (X) : (win0_2.blk t0_0).view.read (Elt F) X = X := by
  funext j
  refine congrArg X (funext fun a => Fin.ext ?_)
  exact Pipeline.Window.rect_emb_val_of_index_zero win0_2 t0_0 a (by revert a; decide +kernel) j
theorem read_3 (X) : (win0_3.blk t0_0).view.read (Elt F) X = X := by
  funext j
  refine congrArg X (funext fun a => Fin.ext ?_)
  exact Pipeline.Window.rect_emb_val_of_index_zero win0_3 t0_0 a (by revert a; decide +kernel) j
theorem read_4 (X) : (win0_4.blk t0_0).view.read (Elt F) X = X := by
  funext j
  refine congrArg X (funext fun a => Fin.ext ?_)
  exact Pipeline.Window.rect_emb_val_of_index_zero win0_4 t0_0 a (by revert a; decide +kernel) j

/-- The arguments. -/
abbrev arg0 (c : Dev nD) : S5000x4.Idx → F .f32 := m ((c.tc : Thread nD τ).loc main_arg0)
abbrev arg1 (c : Dev nD) : S5000.Idx → F .f32 := m ((c.tc : Thread nD τ).loc main_arg1)

theorem in_0 (c : Dev nD) (p : Fin (2 ^ 13)) : inA m c 0 (pt p) = if hp : p.val < 5000 then arg1 m c (ix1 ⟨p.val, hp⟩) else FloatOps.ofBits .f32 0xBF800000#32 := by
  have e : inA m c 0 = shapeCast S64x128 (concatenate S8192 0 [⟨S5000, arg1 m c⟩, ⟨S3192, broadcastInDim S3192 ![] bcast_S_S3192 (constant S_ .f32 0xBF800000#32)⟩]
      concatenates_S5000_S3192_S8192_d0) shapeCasts_S8192_S64x128 := by
    unfold inA
    rw [read_0]
    unfold V₀
    simp only [hostOps0, List.flatten_cons, List.flatten_nil, List.append_nil]
    after_results
    rfl
  rw [e, padded_apply]; rfl

/-- A column of the boxes, padded with 0 and laid out in rows. -/
def padCol (k : Fin 4) (h : S5000x4.Slices ![0, k.val] S5000x1) (x : S5000x4.Idx → F .f32) : S64x128.Idx → F .f32 :=
  shapeCast S64x128 (concatenate S8192 0 [⟨S5000, shapeCast S5000 (extractStridedSlice S5000x1 ![0, k.val] x h) shapeCasts_S5000x1_S5000⟩,
    ⟨S3192, broadcastInDim S3192 ![] bcast_S_S3192 (constant S_ .f32 0x00000000#32)⟩] concatenates_S5000_S3192_S8192_d0) shapeCasts_S8192_S64x128

theorem padCol_apply (k : Fin 4) (h : S5000x4.Slices ![0, k.val] S5000x1) (x : S5000x4.Idx → F .f32) (p : Fin (2 ^ 13)) :
    padCol k h x (pt p) = if hp : p.val < 5000 then x (ix2 ⟨p.val, hp⟩ k) else FloatOps.ofBits .f32 0x00000000#32 := by
  unfold padCol
  rw [padded_apply]
  exact dite_congr rfl (fun _ => column_apply x k.val k.isLt _ _ _) (fun _ => rfl)

theorem in_1 (c : Dev nD) (p : Fin (2 ^ 13)) : inA m c 1 (pt p) = if hp : p.val < 5000 then arg0 m c (ix2 ⟨p.val, hp⟩ 0) else FloatOps.ofBits .f32 0x00000000#32 := by
  have e : inA m c 1 = padCol 0 slices_S5000x4_S5000x1_0_0 (arg0 m c) := by
    unfold inA
    rw [read_1]
    unfold V₀
    simp only [hostOps0, List.flatten_cons, List.flatten_nil, List.append_nil]
    after_results
    rfl
  rw [e, padCol_apply]

theorem in_2 (c : Dev nD) (p : Fin (2 ^ 13)) : inA m c 2 (pt p) = if hp : p.val < 5000 then arg0 m c (ix2 ⟨p.val, hp⟩ 1) else FloatOps.ofBits .f32 0x00000000#32 := by
  have e : inA m c 2 = padCol 1 slices_S5000x4_S5000x1_0_1 (arg0 m c) := by
    unfold inA
    rw [read_2]
    unfold V₀
    simp only [hostOps0, List.flatten_cons, List.flatten_nil, List.append_nil]
    after_results
    rfl
  rw [e, padCol_apply]

theorem in_3 (c : Dev nD) (p : Fin (2 ^ 13)) : inA m c 3 (pt p) = if hp : p.val < 5000 then arg0 m c (ix2 ⟨p.val, hp⟩ 2) else FloatOps.ofBits .f32 0x00000000#32 := by
  have e : inA m c 3 = padCol 2 slices_S5000x4_S5000x1_0_2 (arg0 m c) := by
    unfold inA
    rw [read_3]
    unfold V₀
    simp only [hostOps0, List.flatten_cons, List.flatten_nil, List.append_nil]
    after_results
    rfl
  rw [e, padCol_apply]

theorem in_4 (c : Dev nD) (p : Fin (2 ^ 13)) : inA m c 4 (pt p) = if hp : p.val < 5000 then arg0 m c (ix2 ⟨p.val, hp⟩ 3) else FloatOps.ofBits .f32 0x00000000#32 := by
  have e : inA m c 4 = padCol 3 slices_S5000x4_S5000x1_0_3 (arg0 m c) := by
    unfold inA
    rw [read_4]
    unfold V₀
    simp only [hostOps0, List.flatten_cons, List.flatten_nil, List.append_nil]
    after_results
    rfl
  rw [e, padCol_apply]

end Cert.KernelIdeal.Own

end
-- ==== Proof.RefOps.lean ====
/-
  What each stretch of the reference's lines makes of the contents before it.
-/
module

public import proofs.«01_k».proof.Proof.RefRun

@[expose] public section

noncomputable section

namespace Cert.ReferenceIdeal.Own

open Idealize.ShloMosaic Idealize.ShloMosaic.StableHlo Idealize.ShloMosaic.Tactic
open Cert.ReferenceIdeal Cert.ReferenceIdeal.Gen Cert.ReferenceIdeal.Value
open TcCoe

variable {F : FTy → Type} [FloatOps F]

/-- The buffers' contents. -/
abbrev Vals (F : FTy → Type) : Type := Valuation τ sig (Elt F)

/-- A word in every entry. -/
abbrev fillF (t : Shape) (h : S_.BroadcastsInDim t (![] : Fin 0 → Fin t.rank)) (b : BitVec 32) : t.Idx → F .f32 := broadcastInDim t ![] h (constant S_ .f32 b)

/-- Column `k` of the boxes as a vector. -/
def colR (k : ℕ) (h : S5000x4.Slices ![0, k] S5000x1) (a : S5000x4.Idx → F .f32) : S5000.Idx → F .f32 :=
  shapeCast S5000 (extractStridedSlice S5000x1 ![0, k] a h) shapeCasts_S5000x1_S5000

/-- A place in pixels; a size in pixels. -/
def placeR (v : S5000.Idx → F .f32) : S5000.Idx → F .f32 := mulf v (fillF S5000 bcast_S_S5000 0x44800000#32)
def sizeR (v : S5000.Idx → F .f32) : S5000.Idx → F .f32 :=
  addf (mulf v (fillF S5000 bcast_S_S5000 0x43480000#32)) (fillF S5000 bcast_S_S5000 0x3F800000#32)

/-- A vector as a column. -/
abbrev upR {α : Type} (v : S5000.Idx → α) : S5000x1.Idx → α := broadcastInDim S5000x1 ![0] bcast_S5000_S5000x1_0 v

/-- The boxes by their edges. -/
def edgesR (a : S5000x4.Idx → F .f32) : S5000x4.Idx → F .f32 :=
  concatenate S5000x4 1 [⟨S5000x1, upR (placeR (colR 0 slices_S5000x4_S5000x1_0_0 a))⟩, ⟨S5000x1, upR (placeR (colR 1 slices_S5000x4_S5000x1_0_1 a))⟩,
    ⟨S5000x1, upR (addf (placeR (colR 0 slices_S5000x4_S5000x1_0_0 a)) (sizeR (colR 2 slices_S5000x4_S5000x1_0_2 a)))⟩,
    ⟨S5000x1, upR (addf (placeR (colR 1 slices_S5000x4_S5000x1_0_1 a)) (sizeR (colR 3 slices_S5000x4_S5000x1_0_3 a)))⟩]
    concatenates_S5000x1_S5000x1_S5000x1_S5000x1_S5000x4_d1

theorem seg0_edges (V : Vals F) : after hostOps0 V (Proc.devRef .tc main_v26) = edgesR (V (Proc.devRef .tc main_arg0)) := by
  after_results
  rfl

theorem seg0_neg (V : Vals F) : after hostOps0 V (Proc.devRef .tc main_v27) = Host.negf (F := F) (s := S5000) (φ := .f32) (V (Proc.devRef .tc main_arg1)) := by
  after_results

/-- The positions in the order of the sort. -/
def orderR (v : S5000.Idx → F .f32) : S5000.Idx → BitVec 32 := (Host.sort2 S5000 0 comparator_f32_i32_d0 v (iotaInDim S5000 32 0)).2

theorem seg1_order (V : Vals F) : after hostOps0_1 V (Proc.devRef .tc main_v28) = orderR (V (Proc.devRef .tc main_v27)) := by
  after_results
  rfl

/-- A position from its end counted from the front. -/
def wrapR (v : S5000.Idx → BitVec 32) : S5000.Idx → BitVec 32 :=
  select (cmpi .slt v (broadcastInDim S5000 ![] bcast_S_S5000 (constantI S_ 32 0#32)))
    (addi v (broadcastInDim S5000 ![] bcast_S_S5000 (constantI S_ 32 5000#32))) v

/-- The boxes, and the scores, in a given order. -/
def takeBoxesR (b : S5000x4.Idx → F .f32) (v : S5000.Idx → BitVec 32) : S5000x4.Idx → F .f32 :=
  Host.gather gather_S5000x4_S5000x1_S5000x4_1_0_n_n_0_1_14 b (upR (wrapR v))
def takeScoresR (s : S5000.Idx → F .f32) (v : S5000.Idx → BitVec 32) : S5000.Idx → F .f32 :=
  Host.gather gather_S5000_S5000x1_S5000_n_0_n_n_0_1_1 s (upR (wrapR v))

/-- The boxes' areas. -/
def areasR (b : S5000x4.Idx → F .f32) : S5000.Idx → F .f32 :=
  mulf (subf (colR 2 slices_S5000x4_S5000x1_0_2 b) (colR 0 slices_S5000x4_S5000x1_0_0 b))
    (subf (colR 3 slices_S5000x4_S5000x1_0_3 b) (colR 1 slices_S5000x4_S5000x1_0_1 b))

/-- A two-column table repeated along the second, and along the first, of two axes. -/
def alongI (x : S5000x2.Idx → F .f32) : S5000x5000x2.Idx → F .f32 :=
  broadcastInDim S5000x5000x2 ![0, 1, 2] bcast_S5000x1x2_S5000x5000x2_0_1_2 (broadcastInDim S5000x1x2 ![0, 2] bcast_S5000x2_S5000x1x2_0_2 x)
def alongJ (x : S5000x2.Idx → F .f32) : S5000x5000x2.Idx → F .f32 :=
  broadcastInDim S5000x5000x2 ![0, 1, 2] bcast_S1x5000x2_S5000x5000x2_0_1_2 (broadcastInDim S1x5000x2 ![1, 2] bcast_S5000x2_S1x5000x2_1_2 x)

/-- The extents of the pairs' common parts, before the clipping. -/
def spansR (b : S5000x4.Idx → F .f32) : S5000x5000x2.Idx → F .f32 :=
  subf (minimumf (alongI (extractStridedSlice S5000x2 ![0, 2] b slices_S5000x4_S5000x2_0_2)) (alongJ (extractStridedSlice S5000x2 ![0, 2] b slices_S5000x4_S5000x2_0_2)))
    (maximumf (alongI (extractStridedSlice S5000x2 ![0, 0] b slices_S5000x4_S5000x2_0_0)) (alongJ (extractStridedSlice S5000x2 ![0, 0] b slices_S5000x4_S5000x2_0_0)))

theorem seg2_boxes (V : Vals F) : after hostOps0_2 V (Proc.devRef .tc main_v35)
    = takeBoxesR (V (Proc.devRef .tc main_v26)) (V (Proc.devRef .tc main_v28)) := by
  after_results
  rfl

theorem seg2_scores (V : Vals F) : after hostOps0_2 V (Proc.devRef .tc main_v42)
    = takeScoresR (V (Proc.devRef .tc main_arg1)) (V (Proc.devRef .tc main_v28)) := by
  after_results
  rfl

theorem seg2_areas (V : Vals F) : after hostOps0_2 V (Proc.devRef .tc main_v53)
    = areasR (takeBoxesR (V (Proc.devRef .tc main_v26)) (V (Proc.devRef .tc main_v28))) := by
  after_results
  rfl

theorem seg2_spans (V : Vals F) : after hostOps0_2 V (Proc.devRef .tc main_v68)
    = spansR (takeBoxesR (V (Proc.devRef .tc main_v26)) (V (Proc.devRef .tc main_v28))) := by
  after_results
  rfl

theorem seg2_zero (V : Vals F) : after hostOps0_2 V (Proc.devRef .tc main_cst_8) = constant S_ .f32 0x00000000#32 := by
  after_results

/-- The extents, not below 0. -/
def clipR (z : S_.Idx → F .f32) (x : S5000x5000x2.Idx → F .f32) : S5000x5000x2.Idx → F .f32 :=
  maximumf (broadcastInDim S5000x5000x2 ![] bcast_S_S5000x5000x2 z) x

theorem seg3_clip (V : Vals F) : after hostOps0_3 V (Proc.devRef .tc main_v69) = clipR (V (Proc.devRef .tc main_cst_8)) (V (Proc.devRef .tc main_v68)) := by
  after_results
  rfl

/-- The pairs' common areas. -/
def interR (x : S5000x5000x2.Idx → F .f32) : S5000x5000.Idx → F .f32 :=
  mulf (shapeCast S5000x5000 (extractStridedSlice S5000x5000x1 ![0, 0, 0] x slices_S5000x5000x2_S5000x5000x1_0_0_0) shapeCasts_S5000x5000x1_S5000x5000)
    (shapeCast S5000x5000 (extractStridedSlice S5000x5000x1 ![0, 0, 1] x slices_S5000x5000x2_S5000x5000x1_0_0_1) shapeCasts_S5000x5000x1_S5000x5000)

/-- The pairs' sums of areas. -/
def sumsR (v : S5000.Idx → F .f32) : S5000x5000.Idx → F .f32 :=
  addf (broadcastInDim S5000x5000 ![0, 1] bcast_S5000x1_S5000x5000_0_1 (upR v))
    (broadcastInDim S5000x5000 ![0, 1] bcast_S1x5000_S5000x5000_0_1 (broadcastInDim S1x5000 ![1] bcast_S5000_S1x5000_1 v))

/-- The pairs' shares of their union. -/
def ratioR (x : S5000x5000x2.Idx → F .f32) (v : S5000.Idx → F .f32) : S5000x5000.Idx → F .f32 :=
  Host.divf (interR x) (maximumf (subf (sumsR v) (interR x)) (fillF S5000x5000 bcast_S_S5000x5000 0x3089705F#32))

theorem seg4_ratio (V : Vals F) : after hostOps0_4 V (Proc.devRef .tc main_v87_0)
    = ratioR (V (Proc.devRef .tc main_v69)) (V (Proc.devRef .tc main_v53)) := by
  after_results
  rfl

theorem seg4_iota (V : Vals F) : after hostOps0_4 V (Proc.devRef .tc main_v87_1) = iotaInDim S5000 32 0 := by
  after_results
  rfl

theorem seg4_index (V : Vals F) : after hostOps0_4 V (Proc.devRef .tc main_v87_3) = constantI S_ 32 0#32 := by
  after_results
  rfl

theorem seg4_keep (V : Vals F) : after hostOps0_4 V (Proc.devRef .tc main_v87_4)
    = cmpf .ogt (V (Proc.devRef .tc main_v42)) (fillF S5000 bcast_S_S5000 0x3D4CCCCD#32) := by
  after_results
  rfl

/-- The rows of the result: the box and the score, times the choice. -/
def rowsR (b : S5000x4.Idx → F .f32) (s : S5000.Idx → F .f32) (k : S5000.Idx → BitVec 1) : S5000x5.Idx → F .f32 :=
  mulf (concatenate S5000x5 1 [⟨S5000x4, b⟩, ⟨S5000x1, upR s⟩] concatenates_S5000x4_S5000x1_S5000x5_d1)
    (broadcastInDim S5000x5 ![0, 1] bcast_S5000x1_S5000x5_0_1 (uitofp .f32 (upR k)))

theorem seg5_rows (V : Vals F) : after hostOps0_5 V (Proc.devRef .tc main_v93)
    = rowsR (V (Proc.devRef .tc main_v35)) (V (Proc.devRef .tc main_v42)) (V (Proc.devRef .tc main_v87_4)) := by
  after_results
  rfl

theorem seg5_low (V : Vals F) : after hostOps0_5 V (Proc.devRef .tc main_cst_13) = constant S_ .f32 0xFF800000#32 := by
  after_results

/-- The scores masked to the choice. -/
def maskedR (k : S5000.Idx → BitVec 1) (s : S5000.Idx → F .f32) (z : S_.Idx → F .f32) : S5000.Idx → F .f32 :=
  select k s (broadcastInDim S5000 ![] bcast_S_S5000 z)

theorem seg6_masked (V : Vals F) : after hostOps0_6 V (Proc.devRef .tc main_v94)
    = maskedR (V (Proc.devRef .tc main_v87_4)) (V (Proc.devRef .tc main_v42)) (V (Proc.devRef .tc main_cst_13)) := by
  after_results
  rfl

/-- The positions of the fifteen greatest. -/
def topR (x : S5000.Idx → F .f32) : S15.Idx → BitVec 32 := (Host.topK S15 0 (FloatOps.cmpfTotal .gt) x sliceFits_S5000_S15).2

def wrap15 (v : S15.Idx → BitVec 32) : S15.Idx → BitVec 32 :=
  select (cmpi .slt v (broadcastInDim S15 ![] bcast_S_S15 (constantI S_ 32 0#32)))
    (addi v (broadcastInDim S15 ![] bcast_S_S15 (constantI S_ 32 5000#32))) v

/-- The rows at given positions. -/
def takeRowsR (x : S5000x5.Idx → F .f32) (v : S15.Idx → BitVec 32) : S15x5.Idx → F .f32 :=
  Host.gather gather_S5000x5_S15x1_S15x5_1_0_n_n_0_1_15 x (broadcastInDim S15x1 ![0] bcast_S15_S15x1_0 (wrap15 v))

theorem seg7_top (V : Vals F) : after hostOps0_7 V (Proc.devRef .tc main_v101)
    = takeRowsR (V (Proc.devRef .tc main_v93)) (topR (V (Proc.devRef .tc main_v94))) := by
  after_results
  rfl

theorem seg7_rows (V : Vals F) : after hostOps0_7 V (Proc.devRef .tc main_v93) = V (Proc.devRef .tc main_v93) := by
  after_results

theorem seg6_rows (V : Vals F) : after hostOps0_6 V (Proc.devRef .tc main_v93) = V (Proc.devRef .tc main_v93) := by
  after_results

theorem seg5_scores (V : Vals F) : after hostOps0_5 V (Proc.devRef .tc main_v42) = V (Proc.devRef .tc main_v42) := by
  after_results

theorem seg5_chosen (V : Vals F) : after hostOps0_5 V (Proc.devRef .tc main_v87_4) = V (Proc.devRef .tc main_v87_4) := by
  after_results

variable (m : (ℓ : Loc nD τ sig) → Buf (Elt F) ℓ) (c : Dev nD)

/-- The arguments. -/
abbrev arg0 : S5000x4.Idx → F .f32 := m ((c.tc : Thread nD τ).loc main_arg0)
abbrev arg1 : S5000.Idx → F .f32 := m ((c.tc : Thread nD τ).loc main_arg1)

/-- The positions by decreasing score; the boxes and the scores in that order. -/
def order : S5000.Idx → BitVec 32 := orderR (Host.negf (F := F) (s := S5000) (φ := .f32) (arg1 m c))
def boxes : S5000x4.Idx → F .f32 := takeBoxesR (edgesR (arg0 m c)) (order m c)
def scores : S5000.Idx → F .f32 := takeScoresR (arg1 m c) (order m c)

theorem entry_eq : entryContents preI m c = after hostOps0_4 (after hostOps0_3 (after hostOps0_2 (after hostOps0_1 (after hostOps0 (launchContents m c))))) := rfl

theorem before2_edges : after hostOps0_1 (after hostOps0 (launchContents m c)) (Proc.devRef .tc main_v26) = edgesR (arg0 m c) := by
  rw [after_of_writes_sub _ _ hostOps0_1_writes (by decide), seg0_edges]

theorem before2_order : after hostOps0_1 (after hostOps0 (launchContents m c)) (Proc.devRef .tc main_v28) = order m c := by
  rw [seg1_order, seg0_neg]
  rfl

theorem before2_scores : after hostOps0_1 (after hostOps0 (launchContents m c)) (Proc.devRef .tc main_arg1) = arg1 m c := by
  rw [after_of_writes_sub _ _ hostOps0_1_writes (by decide), after_of_writes_sub _ _ hostOps0_writes (by decide)]

theorem entry_boxes : entryContents preI m c (Proc.devRef .tc main_v35) = boxes m c := by
  rw [entry_eq, after_of_writes_sub _ _ hostOps0_4_writes (by decide), after_of_writes_sub _ _ hostOps0_3_writes (by decide), seg2_boxes,
    before2_edges, before2_order]
  rfl

theorem entry_scores : entryContents preI m c (Proc.devRef .tc main_v42) = scores m c := by
  rw [entry_eq, after_of_writes_sub _ _ hostOps0_4_writes (by decide), after_of_writes_sub _ _ hostOps0_3_writes (by decide), seg2_scores,
    before2_scores, before2_order]
  rfl

theorem entry_ratio : entryContents preI m c (Proc.devRef .tc main_v87_0)
    = ratioR (clipR (constant S_ .f32 0x00000000#32) (spansR (boxes m c))) (areasR (boxes m c)) := by
  rw [entry_eq, seg4_ratio, seg3_clip, after_of_writes_sub _ _ hostOps0_3_writes (by decide), seg2_zero, seg2_spans, seg2_areas,
    before2_edges, before2_order]
  rfl

theorem entry_iota : entryContents preI m c (Proc.devRef .tc main_v87_1) = iotaInDim S5000 32 0 := by
  rw [entry_eq, seg4_iota]

theorem entry_index : entryContents preI m c (Proc.devRef .tc main_v87_3) = constantI S_ 32 0#32 := by
  rw [entry_eq, seg4_index]

theorem entry_keep : entryContents preI m c (Proc.devRef .tc main_v87_4) = cmpf .ogt (scores m c) (fillF S5000 bcast_S_S5000 0x3D4CCCCD#32) := by
  rw [entry_eq, seg4_keep, after_of_writes_sub _ _ hostOps0_3_writes (by decide), seg2_scores, before2_scores, before2_order]
  rfl

/-- The choice at the loop's end. -/
def chosen : S5000.Idx → BitVec 1 := atK m 5000 c (Proc.devRef .tc main_v87_4)

/-- The contents at the loop's end. -/
abbrev Vloop : Vals F := after condOps (atK m 5000 c)

theorem wend_eq : Wend m c = after hostOps0_7 (after hostOps0_6 (after hostOps0_5 (Vloop m c))) := rfl

theorem loop_boxes : Vloop m c (Proc.devRef .tc main_v35) = boxes m c := by
  rw [Vloop, after_of_writes_sub condOps _ condOps_writes (by decide), loop_keeps m _ (by decide) (by decide), entry_boxes]

theorem loop_scores : Vloop m c (Proc.devRef .tc main_v42) = scores m c := by
  rw [Vloop, after_of_writes_sub condOps _ condOps_writes (by decide), loop_keeps m _ (by decide) (by decide), entry_scores]

theorem loop_chosen : Vloop m c (Proc.devRef .tc main_v87_4) = chosen m c := after_of_writes_sub condOps _ condOps_writes (by decide)

/-- The first result. -/
def rows : S5000x5.Idx → F .f32 := rowsR (boxes m c) (scores m c) (chosen m c)

theorem wend_rows : Wend m c (Proc.devRef .tc main_v93) = rows m c := by
  rw [wend_eq, seg7_rows, seg6_rows, seg5_rows,
    loop_boxes, loop_scores, loop_chosen]
  rfl

/-- The second. -/
theorem wend_top : Wend m c (Proc.devRef .tc main_v101)
    = takeRowsR (rows m c) (topR (maskedR (chosen m c) (scores m c) (constant S_ .f32 0xFF800000#32))) := by
  rw [wend_eq, seg7_top, seg6_masked, seg6_rows, seg5_rows, seg5_low, seg5_scores, seg5_chosen,
    loop_boxes, loop_scores, loop_chosen]
  rfl

end Cert.ReferenceIdeal.Own

end
-- ==== Proof.Stable.lean ====
/-
  A stable sort by decreasing score lists the positions in the order of `Order`; the first places of such a list by masked
  scores are the chosen positions in order; a loop that strikes out, at its trip `k`, what position `k` suppresses leaves the
  greedy choice.
-/
module

public import proofs.«01_k».proof.Proof.Order
public import Idealize.ShloMosaic.Lib.SortPrefix
public import Idealize.ShloMosaic.Lib.Routing.OpsSet
public import Idealize.ShloMosaic.Lib.Pointwise.Index

@[expose] public section

noncomputable section

namespace Cert.Nms

open Classical
open Idealize.ShloMosaic

theorem Before.trans {n : ℕ} {s : Fin n → EReal} {i j k : Fin n} (h : Before s i j) (h' : Before s j k) : Before s i k := by
  rcases h with h | ⟨e, h⟩ <;> rcases h' with h' | ⟨e', h'⟩
  · exact .inl (h'.trans h)
  · exact .inl (e' ▸ h)
  · exact .inl (e ▸ h')
  · exact .inr ⟨e.trans e', h.trans h'⟩

theorem Before.total {n : ℕ} {s : Fin n → EReal} {i j : Fin n} (h : i ≠ j) : Before s i j ∨ Before s j i := by
  rcases lt_trichotomy (s i) (s j) with k | k | k
  · exact .inr (.inl k)
  · rcases lt_or_gt_of_ne h with l | l
    · exact .inl (.inr ⟨k, l⟩)
    · exact .inr (.inr ⟨k.symm, l⟩)
  · exact .inl (.inl k)

/-- The stable insertion sort of a list compares only a later element with an earlier one. -/
theorem stableSort_congr_later {ι : Type} (R R' : ι → ι → Bool) (L : ι → ι → Prop) (l : List ι) (hl : l.Pairwise L)
    (h : ∀ a b, L a b → R b a = R' b a) : stableSort R l = stableSort R' l := by
  induction l with
  | nil => rfl
  | cons a l ih =>
    obtain ⟨ha, hl'⟩ := List.pairwise_cons.mp hl
    unfold stableSort
    rw [ih hl']
    exact insertBefore_congr R R' a _ fun b hb => h a b (ha b ((perm_stableSort R' l).mem_iff.mp hb))

/-- The order is a strict total one. -/
theorem before_strictTotal {n : ℕ} (s : Fin n → EReal) : StrictTotalBefore fun a b => decide (Before s a b) where
  irrefl a := decide_eq_false Before.irrefl
  trans a b c h h' := decide_eq_true ((of_decide_eq_true h).trans (of_decide_eq_true h'))
  total a b h := (Before.total h).imp decide_eq_true decide_eq_true

/-- A stable sort by decreasing score lists the positions by decreasing score and, among equal ones, in order. -/
theorem stable_isSort {n : ℕ} (s : Fin n → EReal) (R : Fin n → Fin n → Bool) (hR : ∀ a b, R a b = decide (s b < s a)) :
    IsSort s (sortedFrom R) := by
  have hB := before_strictTotal s
  have e : sortPositions n R = sortPositions n fun a b => decide (Before s a b) :=
    stableSort_congr_later _ _ (· < ·) _ (List.pairwise_lt_finRange n) fun a b hab => by
      rw [hR]
      refine decide_eq_decide.mpr ⟨.inl, ?_⟩
      rintro (h | ⟨-, h⟩)
      · exact h
      · exact absurd h (lt_asymm hab)
  have e' : sortedFrom R = sortedFrom fun a b => decide (Before s a b) := by
    funext k
    unfold sortedFrom
    simp only [List.get_eq_getElem, e, Fin.val_cast]
  refine ⟨sortedFrom_injective R, fun p q h => ?_⟩
  have hne : sortedFrom R p ≠ sortedFrom R q := fun k => (ne_of_lt h) (sortedFrom_injective R k)
  have hno := sortedFrom_noInversion (fun a b => decide (Before s a b)) (fun a b => decide (Before s a b))
    (fun a b h => hB.asymm a b h) (fun _ _ h => h) hB.negTrans p q h
  rw [← e'] at hno
  exact (Before.total hne).resolve_right (of_decide_eq_false hno)

/-- A stable sort of a vector together with another carries the second along. -/
theorem sort2_apply {n : ℕ} {α β : Type} (cmp : α × β → α × β → BitVec 1) (x : (⟨1, ![n]⟩ : Shape).Idx → α) (y : (⟨1, ![n]⟩ : Shape).Idx → β)
    (p : Fin n) : (Host.sort2 ⟨1, ![n]⟩ 0 cmp x y).2 (ix1 p)
      = y (ix1 (sortedFrom (fun k k' => cmp (x (ix1 k), y (ix1 k)) (x (ix1 k'), y (ix1 k')) == 1#1) p)) := by
  have hd : 0 < (⟨1, ![n]⟩ : Shape).rank := Nat.zero_lt_one
  have e : ∀ (j : (⟨1, ![n]⟩ : Shape).Idx) (c : Fin n), j.along (⟨0, hd⟩ : Fin (⟨1, ![n]⟩ : Shape).rank) c = ix1 c := fun j c =>
    (Shape.Idx.along_rank1 j c).trans (Routing.ofFin_eq_ix1 c)
  unfold Host.sort2
  rw [dif_pos hd]
  refine congrArg y ((e _ _).trans (congrArg ix1 ?_))
  exact congrArg (fun R => sortedFrom R p) (funext fun k => funext fun k' => congrArg₂ (fun a b => cmp a b == 1#1)
    (congrArg₂ Prod.mk (congrArg x (e _ k)) (congrArg y (e _ k))) (congrArg₂ Prod.mk (congrArg x (e _ k')) (congrArg y (e _ k'))))

/-- The first places of the order by the scores masked to the chosen positions are the chosen positions in order. -/
theorem top_isSort {n : ℕ} {s key : Fin n → EReal} {K : Fin n → Prop} (hs : ∀ p q : Fin n, p ≤ q → s q ≤ s p) (hb : ∀ p, K p → ⊥ < s p)
    (hK : ∀ p, K p → key p = s p) (hN : ∀ p, ¬ K p → key p = ⊥) {σ : Fin n → Fin n} (hσ : IsSort key σ) (r : Fin n) :
    (∀ p, IsRth K r.val p → σ r = p) ∧ ((∀ p, ¬ IsRth K r.val p) → ¬ K (σ r)) := by
  have key_iff : ∀ p, K p → (Finset.univ.filter fun j => Before key j p) = Finset.univ.filter fun q => q < p ∧ K q := by
    intro p hp
    refine Finset.filter_congr fun j _ => ⟨fun h => ?_, fun ⟨hj, hKj⟩ => ?_⟩
    · have hKj : K j := by
        by_contra hn
        have hp' := hb p hp
        rcases h with h | ⟨h, -⟩
        · rw [hN j hn] at h; exact not_lt_bot h
        · rw [hN j hn, hK p hp] at h; rw [← h] at hp'; exact lt_irrefl _ hp'
      refine ⟨?_, hKj⟩
      rcases h with h | ⟨-, h⟩
      · rw [hK p hp, hK j hKj] at h
        by_contra hn
        exact absurd (hs p j (not_lt.mp hn)) (not_le.mpr h)
      · exact h
    · unfold Before
      rw [hK j hKj, hK p hp]
      rcases lt_or_eq_of_le (hs j p hj.le) with h | h
      · exact .inl h
      · exact .inr ⟨h.symm, hj⟩
  constructor
  · rintro p ⟨hp, hr⟩
    obtain ⟨p', rfl⟩ := (Finite.injective_iff_bijective.mp hσ.inj).2 p
    have := hσ.rank p'
    rw [key_iff _ hp, hr] at this
    rw [Fin.ext this]
  · intro h hk
    refine h (σ r) ⟨hk, ?_⟩
    rw [← key_iff _ hk]
    exact (hσ.rank r).symm

/-- A loop over the positions that strikes out, at position `k` if it is still there, every later position it suppresses. -/
theorem loop_greedy {n : ℕ} {ok : Fin n → Prop} {S : Fin n → Fin n → Prop} (A : ℕ → Fin n → Prop) (h0 : ∀ j, A 0 j ↔ ok j)
    (hA : ∀ (k : ℕ) (hk : k < n) (j : Fin n), A (k + 1) j ↔ A k j ∧ ¬ (S ⟨k, hk⟩ j ∧ k < j.val ∧ A k ⟨k, hk⟩)) :
    Greedy ok (fun p q => S q p) (A n) := by
  have hstay : ∀ (q : Fin n) (k : ℕ), q.val ≤ k → k ≤ n → (A k q ↔ A q.val q) := by
    intro q k hq hk
    induction k, hq using Nat.le_induction with
    | base => exact Iff.rfl
    | succ k hqk ih =>
      rw [hA k hk q, and_iff_left (fun ⟨_, h, _⟩ => absurd h (Nat.not_lt.mpr hqk))]
      exact ih (Nat.le_of_succ_le hk)
  have hall : ∀ k, k ≤ n → ∀ j : Fin n, A k j ↔ ok j ∧ ∀ q : Fin n, q.val < k → q < j → A q.val q → ¬ S q j := by
    intro k
    induction k with
    | zero => exact fun _ j => (h0 j).trans (iff_self_and.mpr fun _ q h => absurd h (Nat.not_lt_zero _))
    | succ k ih =>
      intro hk j
      rw [hA k hk j, ih (Nat.le_of_succ_le hk) j]
      constructor
      · rintro ⟨⟨ho, h⟩, hn⟩
        refine ⟨ho, fun q hq hqj hAq hS => ?_⟩
        rcases Nat.lt_succ_iff_lt_or_eq.mp hq with h' | h'
        · exact h q h' hqj hAq hS
        · obtain rfl : q = ⟨k, hk⟩ := Fin.ext h'
          exact hn ⟨hS, hqj, hAq⟩
      · rintro ⟨ho, h⟩
        exact ⟨⟨ho, fun q hq => h q (Nat.lt_succ_of_lt hq)⟩, fun ⟨hS, hkj, hAk⟩ => h ⟨k, hk⟩ (Nat.lt_succ_self k) hkj hAk hS⟩
  intro p
  rw [hall n le_rfl p]
  refine and_congr_right fun _ => ⟨fun h q hq hAq => h q q.isLt hq ((hstay q n q.isLt.le le_rfl).mp hAq),
    fun h q _ hq hAq => h q hq ((hstay q n q.isLt.le le_rfl).mpr hAq)⟩

end Cert.Nms

end
-- ==== Proof.RefVal.lean ====
/-
  The reference's values over the extended reals: the order of the scores, the boxes and scores in that order, and the
  pairs' shares of their union.
-/
module

public import proofs.«01_k».proof.Proof.RefOps
public import proofs.«01_k».proof.Proof.Stable
public import proofs.«01_k».proof.Proof.Nms

@[expose] public section

noncomputable section

namespace Cert.ReferenceIdeal.Own

open Classical
open Idealize.ShloMosaic Idealize.ShloMosaic.StableHlo
open Cert.ReferenceIdeal Cert.ReferenceIdeal.Gen Cert.ReferenceIdeal.Value Cert.Nms
open TcCoe

/-- The comparator compares the keys. -/
theorem comparator_eq (l r : Ideal .f32 × BitVec 32) : (comparator_f32_i32_d0 l r == 1#1) = decide ((l.1 : EReal) < r.1) := by
  have hz : ∀ x : EReal, Scalar.select (Ideal.cmp .oeq x (Ideal.ofBits .f32 0x00000000#32)) (Ideal.ofBits .f32 0x00000000#32) x = x := by
    intro x
    unfold Scalar.select
    split
    · next h => exact ((Ideal.cmp_oeq_eq_one _ _).mp h).symm
    · rfl
  have hn : ∀ x y z : EReal, Scalar.select (Ideal.cmp .une x x) y z = z := by
    intro x y z
    unfold Scalar.select
    rw [if_neg (by simp [Ideal.cmp])]
  have e : comparator_f32_i32_d0 l r = Ideal.cmp .olt (l.1 : EReal) r.1 := by
    show Ideal.cmp .olt (Scalar.select _ _ (Scalar.select _ _ _)) (Scalar.select _ _ (Scalar.select _ _ _)) = _
    exact congrArg₂ (Ideal.cmp .olt) ((hn _ _ _).trans (hz _)) ((hn _ _ _).trans (hz _))
  rw [e]
  by_cases h : (l.1 : EReal) < r.1
  · rw [decide_eq_true h, (Ideal.cmp_olt_eq_one _ _).mpr h]; rfl
  · rw [decide_eq_false h]
    exact beq_eq_false_iff_ne.mpr fun k => h ((Ideal.cmp_olt_eq_one _ _).mp k)

/-- The sort of the negated scores lists the positions by decreasing score. -/
theorem order_sort (s : S5000.Idx → Ideal .f32) : ∃ τ : Fin 5000 → Fin 5000, IsSort (fun i => (s (ix1 i) : EReal)) τ
    ∧ ∀ p, orderR (Host.negf (F := Ideal) (s := S5000) (φ := .f32) s) (ix1 p) = BitVec.ofNat 32 (τ p).val := by
  refine ⟨_, stable_isSort (fun i => (s (ix1 i) : EReal)) (fun k k' => comparator_f32_i32_d0
    (Host.negf (F := Ideal) (s := S5000) (φ := .f32) s (ix1 k), iotaInDim S5000 32 0 (ix1 k))
    (Host.negf (F := Ideal) (s := S5000) (φ := .f32) s (ix1 k'), iotaInDim S5000 32 0 (ix1 k')) == 1#1) (fun a b => ?_), fun p => ?_⟩
  · rw [comparator_eq]
    exact decide_eq_decide.mpr EReal.neg_lt_neg_iff
  · unfold orderR
    rw [sort2_apply (n := 5000)]
    rfl

/-- A position counted from the front stays. -/
theorem wrap_word (b : Fin 5000) : Scalar.select (IntOp.cmpi .slt (BitVec.ofNat 32 b.val) 0#32) (IntOp.addi (BitVec.ofNat 32 b.val) 5000#32) (BitVec.ofNat 32 b.val)
    = BitVec.ofNat 32 b.val := by
  have hb := b.isLt
  have h : IntOp.cmpi .slt (BitVec.ofNat 32 b.val) 0#32 = 0#1 := by
    unfold IntOp.cmpi
    have : (BitVec.ofNat 32 b.val).slt 0#32 = false := by
      rw [BitVec.slt, decide_eq_false_iff_not, StableHlo.Predicate.toInt_ofNat_small _ (by omega)]
      simp
    simp [this]
  rw [h]; rfl

theorem wrapR_apply (v : S5000.Idx → BitVec 32) (p b : Fin 5000) (h : v (ix1 p) = BitVec.ofNat 32 b.val) : wrapR v (ix1 p) = BitVec.ofNat 32 b.val := by
  show Scalar.select (IntOp.cmpi .slt (v (ix1 p)) 0#32) (IntOp.addi (v (ix1 p)) 5000#32) (v (ix1 p)) = _
  rw [h, wrap_word]

theorem upR_apply {α : Type} (v : S5000.Idx → α) (p : Fin 5000) : upR v (ix2 p 0) = v (ix1 p) := by
  refine congrArg v (funext fun a => Fin.ext ?_)
  fin_cases a
  rfl

theorem takeBoxes_apply (b : S5000x4.Idx → Ideal .f32) (v : S5000.Idx → BitVec 32) (p q : Fin 5000) (h : v (ix1 p) = BitVec.ofNat 32 q.val) (k : Fin 4) :
    takeBoxesR b v (ix2 p k) = b (ix2 q k) :=
  Routing.gather_row (nb := 5000) (B := 4) (n := 5000) gather_S5000x4_S5000x1_S5000x4_1_0_n_n_0_1_14 rfl rfl rfl rfl rfl b _ p k q
    ((upR_apply _ _).trans (wrapR_apply v p q h)) (by norm_num)

theorem takeScores_apply (s : S5000.Idx → Ideal .f32) (v : S5000.Idx → BitVec 32) (p q : Fin 5000) (h : v (ix1 p) = BitVec.ofNat 32 q.val) :
    takeScoresR s v (ix1 p) = s (ix1 q) :=
  Routing.gather_take1 (N := 5000) (n := 5000) gather_S5000_S5000x1_S5000_n_0_n_n_0_1_1 rfl rfl rfl rfl s _ p q
    ((upR_apply _ _).trans (wrapR_apply v p q h)) (by norm_num)

/-- The box in a row of edges. -/
def boxRow (b : S5000x4.Idx → Ideal .f32) (p : Fin 5000) : Box := ⟨b (ix2 p 0), b (ix2 p 1), b (ix2 p 2), b (ix2 p 3)⟩

theorem colR_apply (k : ℕ) (hk : k < 4) (h : S5000x4.Slices ![0, k] S5000x1) (a : S5000x4.Idx → Ideal .f32) (p : Fin 5000) :
    colR k h a (ix1 p) = a (ix2 p ⟨k, hk⟩) := column_apply (n := 5000) (w := 4) a k hk h _ p

/-- The edges are those of the boxes with the given places and sizes. -/
theorem edges_box (a : S5000x4.Idx → Ideal .f32) (p : Fin 5000) :
    boxRow (edgesR a) p = boxOf (a (ix2 p 0)) (a (ix2 p 1)) (a (ix2 p 2)) (a (ix2 p 3)) := by
  have h0 : edgesR a (ix2 p 0) = _ := (lanes_apply (a := 5000) (n := 4) (w := 1) _ _ 0 (by simp) _ rfl 0 (by simp) p 0 0 (by simp)).trans (upR_apply _ p)
  have h1 : edgesR a (ix2 p 1) = _ := (lanes_apply (a := 5000) (n := 4) (w := 1) _ _ 1 (by simp) _ rfl 1 (by simp) p 1 0 (by simp)).trans (upR_apply _ p)
  have h2 : edgesR a (ix2 p 2) = _ := (lanes_apply (a := 5000) (n := 4) (w := 1) _ _ 2 (by simp) _ rfl 2 (by simp) p 2 0 (by simp)).trans (upR_apply _ p)
  have h3 : edgesR a (ix2 p 3) = _ := (lanes_apply (a := 5000) (n := 4) (w := 1) _ _ 3 (by simp) _ rfl 3 (by simp) p 3 0 (by simp)).trans (upR_apply _ p)
  unfold boxRow boxOf
  rw [h0, h1, h2, h3]
  show Box.mk (colR 0 slices_S5000x4_S5000x1_0_0 a (ix1 p) * _) (colR 1 slices_S5000x4_S5000x1_0_1 a (ix1 p) * _)
    (colR 0 slices_S5000x4_S5000x1_0_0 a (ix1 p) * _ + (colR 2 slices_S5000x4_S5000x1_0_2 a (ix1 p) * _ + _))
    (colR 1 slices_S5000x4_S5000x1_0_1 a (ix1 p) * _ + (colR 3 slices_S5000x4_S5000x1_0_3 a (ix1 p) * _ + _)) = _
  rw [colR_apply 0 (by decide), colR_apply 1 (by decide), colR_apply 2 (by decide), colR_apply 3 (by decide)]
  rfl

theorem areas_apply (b : S5000x4.Idx → Ideal .f32) (p : Fin 5000) : (areasR b (ix1 p) : EReal) = (boxRow b p).area := by
  show ((colR 2 slices_S5000x4_S5000x1_0_2 b (ix1 p) : EReal) - colR 0 slices_S5000x4_S5000x1_0_0 b (ix1 p))
    * (colR 3 slices_S5000x4_S5000x1_0_3 b (ix1 p) - colR 1 slices_S5000x4_S5000x1_0_1 b (ix1 p)) = _
  rw [colR_apply 0 (by decide), colR_apply 1 (by decide), colR_apply 2 (by decide), colR_apply 3 (by decide)]
  rfl

theorem alongI_apply (x : S5000x2.Idx → Ideal .f32) (i j : Fin 5000) (k : Fin 2) : alongI x (ix3 i j k) = x (ix2 i k) := by
  refine congrArg x (funext fun a => Fin.ext ?_)
  fin_cases a <;> rfl

theorem alongJ_apply (x : S5000x2.Idx → Ideal .f32) (i j : Fin 5000) (k : Fin 2) : alongJ x (ix3 i j k) = x (ix2 j k) := by
  refine congrArg x (funext fun a => Fin.ext ?_)
  fin_cases a <;> rfl

/-- The extents of two boxes' common part, before the clipping. -/
theorem spans_apply (b : S5000x4.Idx → Ideal .f32) (i j : Fin 5000) (k : Fin 2) : (spansR b (ix3 i j k) : EReal)
    = min (b (ix2 i ⟨2 + k.val, by omega⟩)) (b (ix2 j ⟨2 + k.val, by omega⟩)) - max (b (ix2 i ⟨k.val, by omega⟩)) (b (ix2 j ⟨k.val, by omega⟩)) := by
  let u : S5000x2.Idx → Ideal .f32 := extractStridedSlice S5000x2 ![0, 2] b slices_S5000x4_S5000x2_0_2
  let v : S5000x2.Idx → Ideal .f32 := extractStridedSlice S5000x2 ![0, 0] b slices_S5000x4_S5000x2_0_0
  show min (alongI u (ix3 i j k) : EReal) (alongJ u (ix3 i j k) : EReal) - max (alongI v (ix3 i j k) : EReal) (alongJ v (ix3 i j k) : EReal) = _
  rw [alongI_apply, alongJ_apply, alongI_apply, alongJ_apply]
  have e2 : ∀ i : Fin 5000, u (ix2 i k) = b (ix2 i ⟨2 + k.val, by omega⟩) := fun i =>
    (slice_apply (a := 5000) (b := 4) (c := 5000) (d := 2) b _ i k).trans (congrArg b (congrArg₂ ix2 (Fin.ext (by simp)) rfl))
  have e0 : ∀ i : Fin 5000, v (ix2 i k) = b (ix2 i ⟨k.val, by omega⟩) := fun i =>
    (slice_apply (a := 5000) (b := 4) (c := 5000) (d := 2) b _ i k).trans (congrArg b (congrArg₂ ix2 (Fin.ext (by simp)) (Fin.ext (by simp))))
  rw [e2, e2, e0, e0]

theorem inter_apply (x : S5000x5000x2.Idx → Ideal .f32) (i j : Fin 5000) : (interR x (ix2 i j) : EReal) = x (ix3 i j 0) * x (ix3 i j 1) := by
  have e : ∀ (k : Fin 2) (h : S5000x5000x2.Slices ![0, 0, k.val] S5000x5000x1) (h' : S5000x5000x1.ShapeCasts S5000x5000),
      shapeCast S5000x5000 (extractStridedSlice S5000x5000x1 ![0, 0, k.val] x h) h' (ix2 i j) = x (ix3 i j k) := fun k h h' => by
    rw [shapeCast_apply _ h' (ix2 i j) (ix3 i j 0) (by
      rw [Shape.rowMajor_val_two, Shape.rowMajor_val_three]
      show (i.val * 5000 + j.val) * 1 + 0 = i.val * 5000 + j.val
      omega)]
    exact extractStridedSlice_apply _ x h _ _ fun a => by fin_cases a <;> simp
  exact congrArg₂ (fun u v : EReal => u * v) (e 0 _ _) (e 1 _ _)

theorem sums_apply (v : S5000.Idx → Ideal .f32) (i j : Fin 5000) : (sumsR v (ix2 i j) : EReal) = v (ix1 i) + v (ix1 j) := by
  refine congrArg₂ (fun u v : EReal => u + v) (congrArg v (funext fun a => Fin.ext ?_)) (congrArg v (funext fun a => Fin.ext ?_))
  · fin_cases a; rfl
  · fin_cases a; rfl

/-- The pairs' shares of their union are the boxes'. -/
theorem ratio_apply (b : S5000x4.Idx → Ideal .f32) (i j : Fin 5000) :
    (ratioR (clipR (constant S_ .f32 0x00000000#32) (spansR b)) (areasR b) (ix2 i j) : EReal) = iouE (boxRow b i) (boxRow b j) := by
  have hi : (interR (clipR (constant S_ .f32 0x00000000#32) (spansR b)) (ix2 i j) : EReal) = interE (boxRow b i) (boxRow b j) := by
    rw [inter_apply]
    show max (Ideal.ofBits .f32 0x00000000#32) (spansR b (ix3 i j 0) : EReal) * max (Ideal.ofBits .f32 0x00000000#32) (spansR b (ix3 i j 1) : EReal) = _
    rw [spans_apply, spans_apply, Ideal.ofBits_zero_f32, max_comm, max_comm (0 : EReal)]
    rfl
  show Ideal.div _ (max ((sumsR (areasR b) (ix2 i j) : EReal) - _) _) = _
  rw [hi, sums_apply, areas_apply, areas_apply]
  rfl

end Cert.ReferenceIdeal.Own

end
-- ==== Proof.RefLoop.lean ====
/-
  The reference's loop over the extended reals: the greedy choice, and the two results it gives.
-/
module

public import proofs.«01_k».proof.Proof.RefVal
public import Idealize.ShloMosaic.Lib.DynamicIndex

@[expose] public section

noncomputable section

namespace Cert.ReferenceIdeal.Own

open Classical
open Idealize.ShloMosaic Idealize.ShloMosaic.StableHlo
open Cert.ReferenceIdeal Cert.ReferenceIdeal.Gen Cert.ReferenceIdeal.Value Cert.Nms
open TcCoe

/-- One row of a matrix, taken at a start inside it. -/
theorem rowAt_apply {α : Type} (x : S5000x5000.Idx → α) (st : Fin 2 → Int) (k j : Fin 5000) (h0 : st 0 = (k.val : ℕ)) (h1 : st 1 = (0 : ℕ)) :
    shapeCast S5000 (Host.dynamicSlice S1x5000 x st sliceFits_S5000x5000_S1x5000) shapeCasts_S1x5000_S5000 (ix1 j) = x (ix2 k j) := by
  have hs : S5000x5000.Slices ![k.val, 0] S1x5000 := ⟨rfl, fun a => by
    have := k.isLt
    fin_cases a
    · show k.val + 1 ≤ 5000; omega
    · show 0 + 5000 ≤ 5000; omega⟩
  rw [Host.dynamicSlice_eq_extractStridedSlice S1x5000 x st ![k.val, 0] _ hs (fun a => by fin_cases a; exacts [h0, h1])]
  rw [shapeCast_apply _ shapeCasts_S1x5000_S5000 (ix1 j) (ix2 0 j) (by
    rw [Shape.rowMajor_val_one, Shape.rowMajor_val_two]
    show 0 * 5000 + j.val = j.val
    omega)]
  exact extractStridedSlice_apply _ x hs _ _ fun a => by fin_cases a <;> simp

/-- One entry of a vector. -/
theorem entryAt_apply {α : Type} (x : S5000.Idx → α) (st : Fin 1 → Int) (k : Fin 5000) (h0 : st 0 = (k.val : ℕ)) (i : S_.Idx) :
    shapeCast S_ (Host.dynamicSlice S1 x st sliceFits_S5000_S1) shapeCasts_S1_S_ i = x (ix1 k) := by
  have hs : S5000.Slices ![k.val] S1 := ⟨rfl, fun a => by
    have := k.isLt
    fin_cases a
    show k.val + 1 ≤ 5000; omega⟩
  rw [Host.dynamicSlice_eq_extractStridedSlice S1 x st ![k.val] _ hs (fun a => by fin_cases a; exact h0)]
  rw [shapeCast_apply _ shapeCasts_S1_S_ i (ix1 0) (by
    rw [Shape.rowMajor_val_one]
    have : (S_.rowMajor i).val < 1 := (S_.rowMajor i).isLt
    show 0 = (S_.rowMajor i).val
    omega)]
  exact extractStridedSlice_apply _ x hs _ _ fun a => by fin_cases a; simp

theorem bits_iff (a x y z : BitVec 1) : IntOp.andi a (~~~ (IntOp.andi (IntOp.andi x y) z)) = 1#1 ↔ a = 1#1 ∧ ¬ (x = 1#1 ∧ y = 1#1 ∧ z = 1#1) := by
  rcases BitVec.eq_zero_or_eq_one a with h | h <;> rcases BitVec.eq_zero_or_eq_one x with h' | h' <;>
  rcases BitVec.eq_zero_or_eq_one y with h'' | h'' <;> rcases BitVec.eq_zero_or_eq_one z with h''' | h''' <;> subst h h' h'' h''' <;> decide

/-- What one trip leaves chosen. -/
theorem step_at (X : Vals Ideal) (k j : Fin 5000) (hk : X (Proc.devRef .tc main_v87_3) = constantI S_ 32 (BitVec.ofNat 32 k.val)) :
    (step_main_v87_4 X : S5000.Idx → BitVec 1) (ix1 j) = 1#1 ↔ (X (Proc.devRef .tc main_v87_4) : S5000.Idx → BitVec 1) (ix1 j) = 1#1
      ∧ ¬ (Ideal.ofBits .f32 0x3E99999A#32 < (X (Proc.devRef .tc main_v87_0) : S5000x5000.Idx → EReal) (ix2 k j)
        ∧ IntOp.cmpi .sgt ((X (Proc.devRef .tc main_v87_1) : S5000.Idx → BitVec 32) (ix1 j)) (BitVec.ofNat 32 k.val) = 1#1
        ∧ (X (Proc.devRef .tc main_v87_4) : S5000.Idx → BitVec 1) (ix1 k) = 1#1) := by
  have hk' := k.isLt
  rw [← Ideal.cmp_ogt_eq_one]
  refine Iff.trans ?_ (bits_iff _ _ _ _)
  refine Eq.congr_left ?_
  unfold step_main_v87_4 res_main_while0b_v103
  rw [hk]
  have w : ∀ n : ℕ, n < 2 ^ 31 → BitVec.toInt (select (cmpi .slt (constantI S_ 32 (BitVec.ofNat 32 n)) (constantI S_ 32 0#32))
      (addi (constantI S_ 32 (BitVec.ofNat 32 n)) (constantI S_ 32 5000#32)) (constantI S_ 32 (BitVec.ofNat 32 n)) (Shape.Idx.first h_S_)) = (n : Int) :=
    fun n hn => toInt_wrap_ofNat n hn
  exact congrArg₂ IntOp.andi rfl (congrArg (fun y => ~~~ y) (congrArg₂ IntOp.andi (congrArg₂ IntOp.andi
    (congrArg (fun y : EReal => Ideal.cmp .ogt y (Ideal.ofBits .f32 0x3E99999A#32)) (rowAt_apply _ _ k j (w k.val (by omega)) (w 0 (by omega)))) rfl)
    (entryAt_apply _ _ k (w k.val (by omega)) _)))

variable (m : (ℓ : Loc nD τ sig) → Buf (Elt Ideal) ℓ) (c : Dev nD)

theorem atK_step (k : ℕ) (b : Ref sig .tc) (hb : b ∈ carriedRefs) : atK m (k + 1) c (Proc.devRef .tc b) = STEP (atK m k c) (Proc.devRef .tc b) :=
  trip_agree (atK m k c) b hb

/-- The shares of the union at every trip. -/
theorem ratioK : ∀ k, atK m k c (Proc.devRef .tc main_v87_0)
    = ratioR (clipR (constant S_ .f32 0x00000000#32) (spansR (boxes m c))) (areasR (boxes m c))
  | 0 => entry_ratio m c
  | k + 1 => by rw [atK_step m c k _ (by decide), STEP_main_v87_0, ratioK k]

/-- The positions. -/
theorem iotaK : ∀ k, atK m k c (Proc.devRef .tc main_v87_1) = iotaInDim S5000 32 0
  | 0 => entry_iota m c
  | k + 1 => by rw [atK_step m c k _ (by decide), STEP_main_v87_1, iotaK k]

/-- The position a trip treats. -/
theorem indexK : ∀ k, atK m k c (Proc.devRef .tc main_v87_3) = constantI S_ 32 (BitVec.ofNat 32 k)
  | 0 => entry_index m c
  | k + 1 => by
    rw [atK_step m c k _ (by decide), STEP_main_v87_3, step_main_v87_3, indexK k]
    funext i
    show BitVec.ofNat 32 k + 1#32 = BitVec.ofNat 32 (k + 1)
    exact (BitVec.ofNat_add k 1).symm

/-- The boxes of the reference in the scores' order overlap. -/
abbrev supR (p q : Fin 5000) : Prop := Overlap (boxRow (boxes m c) q) (boxRow (boxes m c) p)

theorem later_iff (k j : Fin 5000) : IntOp.cmpi .sgt (BitVec.ofNat 32 j.val) (BitVec.ofNat 32 k.val) = 1#1 ↔ k.val < j.val := by
  have hk := k.isLt
  have hj := j.isLt
  unfold IntOp.cmpi
  show BitVec.ofBool ((BitVec.ofNat 32 k.val).slt (BitVec.ofNat 32 j.val)) = 1#1 ↔ _
  rw [BitVec.slt, StableHlo.Predicate.toInt_ofNat_small _ (by omega), StableHlo.Predicate.toInt_ofNat_small _ (by omega)]
  by_cases h : k.val < j.val
  · simp [h]
  · simp [h]

/-- The loop chooses greedily. -/
theorem chosen_greedy : Greedy (fun p => Ideal.ofBits .f32 0x3D4CCCCD#32 < (scores m c (ix1 p) : EReal)) (supR m c)
    (fun p => chosen m c (ix1 p) = 1#1) := by
  refine loop_greedy (S := fun q p => Overlap (boxRow (boxes m c) q) (boxRow (boxes m c) p))
    (fun k p => (atK m k c (Proc.devRef .tc main_v87_4) : S5000.Idx → BitVec 1) (ix1 p) = 1#1) (fun p => ?_) (fun k hk p => ?_)
  · show (entryContents preI m c (Proc.devRef .tc main_v87_4) : S5000.Idx → BitVec 1) (ix1 p) = 1#1 ↔ _
    rw [entry_keep]
    exact Ideal.cmp_ogt_eq_one _ _
  · show (atK m (k + 1) c (Proc.devRef .tc main_v87_4) : S5000.Idx → BitVec 1) (ix1 p) = 1#1 ↔ _
    rw [atK_step m c k _ (by decide), STEP_main_v87_4, step_at (atK m k c) ⟨k, hk⟩ p (indexK m c k), ratioK, iotaK, ratio_apply]
    exact and_congr_right fun _ => not_congr (and_congr_right fun _ => and_congr_left fun _ => later_iff ⟨k, hk⟩ p)

/-- The factor of a row's entries. -/
theorem factor_apply (k : S5000.Idx → BitVec 1) (p : Fin 5000) (q : Fin 5) :
    (broadcastInDim S5000x5 ![0, 1] bcast_S5000x1_S5000x5_0_1 (uitofp .f32 (upR k) : S5000x1.Idx → Ideal .f32) (ix2 p q) : EReal) = ind (k (ix1 p) = 1#1) := by
  have e : ∀ x : S5000x1.Idx → Ideal .f32, broadcastInDim S5000x5 ![0, 1] bcast_S5000x1_S5000x5_0_1 x (ix2 p q) = x (ix2 p 0) := fun x => by
    refine congrArg x (funext fun a => Fin.ext ?_)
    fin_cases a <;> rfl
  refine (e _).trans ?_
  show (((upR k (ix2 p 0)).toNat : ℝ) : EReal) = _
  rw [upR_apply]
  rcases BitVec.eq_zero_or_eq_one (k (ix1 p)) with h | h <;> rw [h]
  · rw [ind_false (by decide)]; simp
  · rw [ind_true rfl]; simp

/-- A row of the first result: the box's edges and its score where it's chosen, else 0. -/
theorem rows_edge (p : Fin 5000) (k : Fin 4) : (rows m c (ix2 p ⟨k.val, by omega⟩) : EReal)
    = boxes m c (ix2 p k) * ind (chosen m c (ix1 p) = 1#1) :=
  congrArg₂ (fun u v : EReal => u * v)
    (lanes_apply (a := 5000) (n := 5) (w := 4) _ _ 0 (by simp) _ rfl 0 (by simp) p _ k (by simp)) (factor_apply _ p _)

theorem rows_score (p : Fin 5000) : (rows m c (ix2 p 4) : EReal) = scores m c (ix1 p) * ind (chosen m c (ix1 p) = 1#1) :=
  congrArg₂ (fun u v : EReal => u * v)
    ((lanes_apply (a := 5000) (n := 5) (w := 1) _ _ 1 (by simp) _ rfl 4 (by simp) p _ 0 (by simp)).trans (upR_apply _ p)) (factor_apply _ p _)

/-- A row that isn't chosen is 0. -/
theorem rows_zero (p : Fin 5000) (h : ¬ chosen m c (ix1 p) = 1#1) (q : Fin 5) : (rows m c (ix2 p q) : EReal) = 0 := by
  refine (congrArg₂ (fun u v : EReal => u * v) rfl ((factor_apply _ p q).trans (ind_false h))).trans (mul_zero _)

/-- The positions of the highest values, in order. -/
theorem top_sort (x : S5000.Idx → Ideal .f32) : ∃ σ : Fin 5000 → Fin 5000, IsSort (fun i => (x (ix1 i) : EReal)) σ
    ∧ ∀ r : Fin 15, topR x (ix1 r) = BitVec.ofNat 32 (σ ⟨r.val, by omega⟩).val := by
  refine ⟨_, stable_isSort (fun i => (x (ix1 i) : EReal)) (fun k k' => Ideal.cmp .ogt (x (ix1 k) : EReal) (x (ix1 k')) == 1#1) (fun a b => ?_), fun r => ?_⟩
  · by_cases h : (x (ix1 b) : EReal) < x (ix1 a)
    · rw [decide_eq_true h, (Ideal.cmp_ogt_eq_one _ _).mpr h]; rfl
    · rw [decide_eq_false h]
      exact beq_eq_false_iff_ne.mpr fun k => h ((Ideal.cmp_ogt_eq_one _ _).mp k)
  · show extractStridedSlice (s := S5000) S15 (fun _ => 0) (Host.sort2 S5000 0 (fun l r => FloatOps.cmpfTotal .gt l.1 r.1) x
      (fun i => if hd : 0 < S5000.rank then iotaInDim S5000 32 ⟨0, hd⟩ i else 0#32)).2 sliceFits_S5000_S15 (ix1 r) = _
    refine (extractStridedSlice_apply (s := S5000) (t := S15) (fun _ => 0) _ _ (ix1 r) (ix1 (⟨r.val, by omega⟩ : Fin 5000)) (fun a => by fin_cases a; simp)).trans ?_
    rw [sort2_apply (n := 5000)]
    rfl

theorem takeRows_apply (x : S5000x5.Idx → Ideal .f32) (v : S15.Idx → BitVec 32) (r : Fin 15) (q : Fin 5000) (h : v (ix1 r) = BitVec.ofNat 32 q.val) (k : Fin 5) :
    takeRowsR x v (ix2 r k) = x (ix2 q k) := by
  refine Routing.gather_row (nb := 5000) (B := 5) (n := 15) gather_S5000x5_S15x1_S15x5_1_0_n_n_0_1_15 rfl rfl rfl rfl rfl x _ r k q ?_ (by norm_num)
  refine Eq.trans (b := wrap15 v (ix1 r)) (congrArg (wrap15 v) (funext fun a => Fin.ext ?_)) ?_
  · fin_cases a; rfl
  · show Scalar.select (IntOp.cmpi .slt (v (ix1 r)) 0#32) (IntOp.addi (v (ix1 r)) 5000#32) (v (ix1 r)) = _
    rw [h, wrap_word]

/-- The second result: the chosen rows in order, then zero rows. -/
theorem top_rows (hs : ∀ p q : Fin 5000, p ≤ q → (scores m c (ix1 q) : EReal) ≤ scores m c (ix1 p)) (r : Fin 15) (q : Fin 5) :
    (∀ p, IsRth (fun p => chosen m c (ix1 p) = 1#1) r.val p → (Wend m c (Proc.devRef .tc main_v101) : S15x5.Idx → EReal) (ix2 r q) = rows m c (ix2 p q))
    ∧ ((∀ p, ¬ IsRth (fun p => chosen m c (ix1 p) = 1#1) r.val p) → (Wend m c (Proc.devRef .tc main_v101) : S15x5.Idx → EReal) (ix2 r q) = (0 : EReal)) := by
  obtain ⟨σ, hσ, hv⟩ := top_sort (maskedR (chosen m c) (scores m c) (constant S_ .f32 0xFF800000#32))
  have key : ∀ p : Fin 5000, (maskedR (chosen m c) (scores m c) (constant S_ .f32 0xFF800000#32) (ix1 p) : EReal)
      = if chosen m c (ix1 p) = 1#1 then (scores m c (ix1 p) : EReal) else Ideal.ofBits .f32 0xFF800000#32 := fun p => rfl
  have ht := top_isSort (K := fun p => chosen m c (ix1 p) = 1#1) hs (fun p hp => lt_of_le_of_lt bot_le ((chosen_greedy m c p).mp hp).1)
    (fun p hp => (key p).trans (if_pos hp)) (fun p hp => ((key p).trans (if_neg hp)).trans bot_eq) hσ ⟨r.val, by omega⟩
  have hw : (Wend m c (Proc.devRef .tc main_v101) : S15x5.Idx → EReal) (ix2 r q) = rows m c (ix2 (σ ⟨r.val, by omega⟩) q) := by
    rw [wend_top]
    exact takeRows_apply _ _ r _ (hv r) q
  exact ⟨fun p hp => by rw [hw, ht.1 p hp], fun hn => by rw [hw]; exact rows_zero m c _ (ht.2 hn) q⟩

end Cert.ReferenceIdeal.Own

end
-- ==== Proof.Algebraic.lean ====
/-
  The idealized kernel and the reference give the same results: their sorted lists agree at every place with a score above
  the threshold, so their greedy choices are the same, and with them the rows they give.
-/
module

public import proofs.«01_k».proof.Defs
public import proofs.«01_k».proof.Proof.Top
public import proofs.«01_k».proof.Proof.Inputs
public import proofs.«01_k».proof.Proof.RefLoop

@[expose] public section

noncomputable section

namespace Cert.Join

open Classical
open Idealize.ShloMosaic Idealize.SL.Sem
open Cert.Nms

/-- The sorted arrays and the sorted boxes and scores agree above the threshold; past the shorter list nothing is above it. -/
structure Agree (a : Sorted Ideal) (b : Cert.ReferenceIdeal.S5000x4.Idx → Ideal .f32) (s : Cert.ReferenceIdeal.S5000.Idx → Ideal .f32) : Prop where
  ok : ∀ p : Fin 5000, okK a (Fin.castLE (by norm_num) p) ↔ Ideal.ofBits .f32 0x3D4CCCCD#32 < (s (ix1 p) : EReal)
  box : ∀ p : Fin 5000, Ideal.ofBits .f32 0x3D4CCCCD#32 < (s (ix1 p) : EReal) →
    boxAt a (posOf (Fin.castLE (by norm_num) p)) = Cert.ReferenceIdeal.Own.boxRow b p
  key : ∀ p : Fin 5000, Ideal.ofBits .f32 0x3D4CCCCD#32 < (s (ix1 p) : EReal) → a.key (pt (posOf (Fin.castLE (by norm_num) p))) = s (ix1 p)
  tail : ∀ p : Fin 5120, 5000 ≤ p.val → ¬ okK a p
  mono : ∀ p q : Fin 5000, p ≤ q → (s (ix1 q) : EReal) ≤ s (ix1 p)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

theorem agree (h0 : Cert.ReferenceIdeal.Own.arg0 m' c = Cert.KernelIdeal.Own.arg0 m c) (h1 : Cert.ReferenceIdeal.Own.arg1 m' c = Cert.KernelIdeal.Own.arg1 m c) :
    Agree (Cert.KernelIdeal.Own.sortedA m c) (Cert.ReferenceIdeal.Own.boxes m' c) (Cert.ReferenceIdeal.Own.scores m' c) := by
  obtain ⟨σ, hσ, ht⟩ := sorted_through (Cert.KernelIdeal.Own.inA m c 0) (Cert.KernelIdeal.Own.inA m c 1) (Cert.KernelIdeal.Own.inA m c 2)
    (Cert.KernelIdeal.Own.inA m c 3) (Cert.KernelIdeal.Own.inA m c 4)
  obtain ⟨τ, hτ, ho⟩ := Cert.ReferenceIdeal.Own.order_sort (Cert.ReferenceIdeal.Own.arg1 m' c)
  have ha : Cert.KernelIdeal.Own.sortedA m c = runStages stages ⟨Cert.KernelIdeal.Own.inA m c 0, posW, Cert.KernelIdeal.Own.inA m c 1,
      Cert.KernelIdeal.Own.inA m c 2, Cert.KernelIdeal.Own.inA m c 3, Cert.KernelIdeal.Own.inA m c 4⟩ := by
    unfold Cert.KernelIdeal.Own.sortedA sortedOf
    simp only [same_eq]
  rw [← ha] at ht
  clear ha
  generalize Cert.KernelIdeal.Own.sortedA m c = a at ht ⊢
  have hnm : 5000 ≤ 2 ^ 13 := by norm_num
  have hs : ∀ i : Fin 5000, scoreAt (Cert.KernelIdeal.Own.inA m c 0) (Fin.castLE hnm i) = (Cert.ReferenceIdeal.Own.arg1 m' c (ix1 i) : EReal) := fun i => by
    rw [h1]
    exact (Cert.KernelIdeal.Own.in_0 m c _).trans (dif_pos i.isLt)
  have hθ : ∀ i : Pos, 5000 ≤ i.val → ¬ Ideal.ofBits .f32 0x3D4CCCCD#32 < scoreAt (Cert.KernelIdeal.Own.inA m c 0) i := fun i hi => by
    have e : scoreAt (Cert.KernelIdeal.Own.inA m c 0) i = Ideal.ofBits .f32 0xBF800000#32 := (Cert.KernelIdeal.Own.in_0 m c _).trans (dif_neg (by omega))
    rw [e]
    exact pad_low
  have hsc : ∀ p, Cert.ReferenceIdeal.Own.scores m' c (ix1 p) = Cert.ReferenceIdeal.Own.arg1 m' c (ix1 (τ p)) := fun p =>
    Cert.ReferenceIdeal.Own.takeScores_apply _ _ p (τ p) (ho p)
  have hkey : ∀ p : Pos, a.key (pt p) = scoreAt (Cert.KernelIdeal.Own.inA m c 0) (σ p) := ht.key
  have hpos : ∀ p : Fin 5000, Ideal.ofBits .f32 0x3D4CCCCD#32 < (Cert.ReferenceIdeal.Own.scores m' c (ix1 p) : EReal) → σ (Fin.castLE hnm p) = Fin.castLE hnm (τ p) :=
    fun p hp => sort_agree hnm hs hθ hσ hτ p (.inr (by rw [hsc] at hp; exact hp))
  have hk : ∀ p : Fin 5000, Ideal.ofBits .f32 0x3D4CCCCD#32 < (Cert.ReferenceIdeal.Own.scores m' c (ix1 p) : EReal) →
      a.key (pt (Fin.castLE hnm p)) = Cert.ReferenceIdeal.Own.scores m' c (ix1 p) := fun p hp => by
    rw [hkey, hpos p hp, hs, hsc]
  refine ⟨fun p => ⟨fun h => ?_, fun h => ?_⟩, fun p hp => ?_, hk, fun p hp h => ?_, fun p q hpq => ?_⟩
  · have h' : Ideal.ofBits .f32 0x3D4CCCCD#32 < scoreAt (Cert.KernelIdeal.Own.inA m c 0) (σ (Fin.castLE hnm p)) := by
      rw [← hkey]; exact h
    rw [sort_agree hnm hs hθ hσ hτ p (.inl h'), hs] at h'
    rw [hsc]
    exact h'
  · exact lt_of_lt_of_eq h (hk p h).symm
  · have hb : Cert.ReferenceIdeal.Own.boxRow (Cert.ReferenceIdeal.Own.boxes m' c) p
        = Cert.ReferenceIdeal.Own.boxRow (Cert.ReferenceIdeal.Own.edgesR (Cert.ReferenceIdeal.Own.arg0 m' c)) (τ p) := by
      unfold Cert.ReferenceIdeal.Own.boxRow
      have e := Cert.ReferenceIdeal.Own.takeBoxes_apply (Cert.ReferenceIdeal.Own.edgesR (Cert.ReferenceIdeal.Own.arg0 m' c)) _ p (τ p) (ho p)
      exact congrArg₂ (fun f g : EReal × EReal => Box.mk f.1 f.2 g.1 g.2) (congrArg₂ Prod.mk (e 0) (e 1)) (congrArg₂ Prod.mk (e 2) (e 3))
    rw [hb, Cert.ReferenceIdeal.Own.edges_box, h0]
    show boxOf (a.x (pt (Fin.castLE hnm p))) (a.y (pt (Fin.castLE hnm p))) (a.w (pt (Fin.castLE hnm p))) (a.h (pt (Fin.castLE hnm p))) = _
    rw [ht.x, ht.y, ht.w, ht.h, hpos p hp]
    show boxOf (Cert.KernelIdeal.Own.inA m c 1 _) (Cert.KernelIdeal.Own.inA m c 2 _) (Cert.KernelIdeal.Own.inA m c 3 _) (Cert.KernelIdeal.Own.inA m c 4 _) = _
    have hl : (Fin.castLE hnm (τ p)).val < 5000 := (τ p).isLt
    rw [Cert.KernelIdeal.Own.in_1, Cert.KernelIdeal.Own.in_2, Cert.KernelIdeal.Own.in_3, Cert.KernelIdeal.Own.in_4,
      dif_pos hl, dif_pos hl, dif_pos hl, dif_pos hl]
    rfl
  · refine sort_tail hnm hs hθ hσ hτ (posOf p) hp ?_
    rw [← hkey]; exact h
  · rw [hsc, hsc]
    rcases eq_or_lt_of_le hpq with rfl | hlt
    · exact le_rfl
    · rcases hτ.sorted p q hlt with h | ⟨h, -⟩
      · exact le_of_lt h
      · exact le_of_eq h.symm

theorem idx_two {a b : ℕ} (i : (Shp a b).Idx) : ∃ (p : Fin a) (q : Fin b), i = ix2 p q :=
  ⟨i 0, i 1, funext fun k => by fin_cases k <;> rfl⟩

/-- A row's entries in the kernel's table and in the reference's. -/
theorem rows_agree {a : Sorted Ideal} (h : Agree a (Cert.ReferenceIdeal.Own.boxes m' c) (Cert.ReferenceIdeal.Own.scores m' c))
    {K : Fin 5120 → Prop} (hK : ∀ p : Fin 5000, K (Fin.castLE (by norm_num) p) ↔ Cert.ReferenceIdeal.Own.chosen m' c (ix1 p) = 1#1)
    (p : Fin 5000) (q : Fin 5) :
    rowE a (posOf (Fin.castLE (by norm_num) p)) (if q.val < 4 then q.val else 5) * ind (K (Fin.castLE (by norm_num) p))
      = Cert.ReferenceIdeal.Own.rows m' c (ix2 p q) := by
  by_cases hc : Cert.ReferenceIdeal.Own.chosen m' c (ix1 p) = 1#1
  · have hok := ((Cert.ReferenceIdeal.Own.chosen_greedy m' c p).mp hc).1
    have hbox := h.box p hok
    rw [ind_true ((hK p).mpr hc), mul_one]
    have hind := ind_true hc
    have hs := Cert.ReferenceIdeal.Own.rows_score m' c p
    have he := Cert.ReferenceIdeal.Own.rows_edge m' c p
    rw [hind, mul_one] at hs
    simp only [hind, mul_one] at he
    fin_cases q
    · exact (congrArg Box.x1 hbox).trans (he 0).symm
    · exact (congrArg Box.y1 hbox).trans (he 1).symm
    · exact (congrArg Box.x2 hbox).trans (he 2).symm
    · exact (congrArg Box.y2 hbox).trans (he 3).symm
    · exact (h.key p hok).trans hs.symm
  · rw [ind_false (fun k => hc ((hK p).mp k)), mul_zero]
    exact (Cert.ReferenceIdeal.Own.rows_zero m' c p hc q).symm

/-- The kernel's two results are the reference's. -/
theorem results_agree (h0 : Cert.ReferenceIdeal.Own.arg0 m' c = Cert.KernelIdeal.Own.arg0 m c) (h1 : Cert.ReferenceIdeal.Own.arg1 m' c = Cert.KernelIdeal.Own.arg1 m c) :
    Cert.ReferenceIdeal.Own.Wend m' c (Proc.devRef .tc Cert.ReferenceIdeal.main_v93)
      = extractStridedSlice Cert.KernelIdeal.S5000x5 ![0, 0] (outD (Cert.KernelIdeal.Own.sortedA m c)) Cert.KernelIdeal.Gen.slices_S5120x8_S5000x5_0_0
    ∧ Cert.ReferenceIdeal.Own.Wend m' c (Proc.devRef .tc Cert.ReferenceIdeal.main_v101)
      = extractStridedSlice Cert.KernelIdeal.S15x5 ![0, 0] (outT (Cert.KernelIdeal.Own.sortedA m c)) Cert.KernelIdeal.Gen.slices_S16x8_S15x5_0_0 := by
  have h := agree m m' c h0 h1
  generalize Cert.KernelIdeal.Own.sortedA m c = a at h ⊢
  obtain ⟨K, hg, hD, hT⟩ := out_values a
  have hnm : 5000 ≤ 5120 := by norm_num
  have hK : ∀ p : Fin 5000, K (Fin.castLE hnm p) ↔ Cert.ReferenceIdeal.Own.chosen m' c (ix1 p) = 1#1 :=
    greedy_agree hnm hg (Cert.ReferenceIdeal.Own.chosen_greedy m' c) h.ok fun p q hp hq => by
      unfold supK Cert.ReferenceIdeal.Own.supR
      rw [h.box p hp, h.box q hq]
      exact Overlap.comm
  have hrow : ∀ (p : Fin 5000) (q : Fin 5), outD a (ix2 (Fin.castLE hnm p) (⟨q.val, by omega⟩ : Fin 8)) = Cert.ReferenceIdeal.Own.rows m' c (ix2 p q) :=
    fun p q => (hD _ _ q.isLt).trans (rows_agree m' c h hK p q)
  constructor
  · rw [Cert.ReferenceIdeal.Own.wend_rows]
    funext i
    obtain ⟨p, q, rfl⟩ := idx_two i
    rw [← hrow]
    exact (extractStridedSlice_apply _ _ _ _ _ fun k => by fin_cases k <;> simp).symm
  · funext i
    obtain ⟨r, q, rfl⟩ := idx_two i
    refine Eq.trans ?_ (extractStridedSlice_apply _ (outT a) _ (ix2 r q) (ix2 (⟨r.val, by omega⟩ : Fin 16) (⟨q.val, by omega⟩ : Fin 8))
      fun k => by fin_cases k <;> simp).symm
    have ht := Cert.ReferenceIdeal.Own.top_rows m' c h.mono r q
    have hTr := hT ⟨r.val, by omega⟩ ⟨q.val, by omega⟩
    by_cases hp : ∃ p, IsRth (fun p => Cert.ReferenceIdeal.Own.chosen m' c (ix1 p) = 1#1) r.val p
    · obtain ⟨p, hp⟩ := hp
      rw [ht.1 p hp, hTr.1 _ ((isRth_agree hnm hK r.val p).mpr hp), hrow]
    · have hn := not_exists.mp hp
      refine (ht.2 hn).trans (hTr.2 fun p hKp => ?_).symm
      by_cases hl : p.val < 5000
      · exact hn ⟨p.val, hl⟩ ((isRth_agree hnm hK r.val ⟨p.val, hl⟩).mp hKp)
      · exact h.tail p (not_lt.mp hl) ((hg p).mp hKp.1).1

end

/-- The idealized kernel and the reference, from memories agreeing on the arguments, end with equal results. -/
theorem algebraic : Cert.algebraic_KernelIdeal_ReferenceIdeal (hKernelIdeal := Cert.KernelIdeal.Gen.facts) (hReferenceIdeal := Cert.ReferenceIdeal.Gen.facts) :=
  fun m g m' g' _ hm =>
    ⟨_, _, (θ_run _ _ _).mono (fun _ h => h.1) (Cert.KernelIdeal.Own.run_values m g),
      (θ_run _ _ _).mono (fun _ h c => ⟨(h.1 c).1.trans (results_agree m m' c (hm c).1 (hm c).2).1,
        (h.1 c).2.1.trans (results_agree m m' c (hm c).1 (hm c).2).2, (h.1 c).2.2⟩) (Cert.ReferenceIdeal.Own.run_values m' g')⟩

end Cert.Join

end
-- ==== Proof.lean ====
/-
  The claim: the kernel runs on its own floats and at the ideal instance, the reference runs, the idealization is the
  program's own text; the idealized kernel and the reference give equal results.
-/
module

public import proofs.«01_k».proof.Defs
public import proofs.«01_k».proof.Proof.RunK
public import proofs.«01_k».proof.Proof.RunI
public import proofs.«01_k».proof.Proof.RefRun
public import proofs.«01_k».proof.Proof.Algebraic

@[expose] public section

noncomputable section

namespace Cert.Proof

open Idealize.ShloMosaic Idealize.SL.Sem

/-- The kernel runs, its arguments end as they were and no semaphore is left raised. -/
theorem frame_kernel : Cert.quiescent_Kernel (hKernel := Cert.Kernel.Gen.facts) := fun m g _ =>
  (θ_run _ _ _).mono (fun _ h => ⟨fun c => (h.1 c).2.2, h.2⟩) (Cert.Kernel.Own.run_values m g)

/-- The same of its idealization. -/
theorem frame_ideal : Cert.quiescent_KernelIdeal (hKernelIdeal := Cert.KernelIdeal.Gen.facts) := fun m g _ =>
  (θ_run _ _ _).mono (fun _ h => ⟨fun c => (h.1 c).2.2, h.2⟩) (Cert.KernelIdeal.Own.run_values m g)

/-- The same of the reference. -/
theorem frame_reference : Cert.quiescent_ReferenceIdeal (hReferenceIdeal := Cert.ReferenceIdeal.Gen.facts) := fun m g _ =>
  (θ_run _ _ _).mono (fun _ h => ⟨fun c => (h.1 c).2.2, h.2⟩) (Cert.ReferenceIdeal.Own.run_values m g)

theorem claim : Cert.Claim := ⟨Cert.Kernel.Gen.facts, Cert.KernelIdeal.Gen.facts, Cert.ReferenceIdeal.Gen.facts,
  frame_kernel, frame_ideal, frame_reference, trivial, Cert.Join.algebraic⟩

end Cert.Proof

end
